-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S100000x4x128 : Shape := ⟨3, ![100000, 4, 128]⟩
abbrev S100000 : Shape := ⟨1, ![100000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x4x128 .f32) (main_arg1 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 1 := constantI S_ 1 1#1
  let main_v2 : IVec S_ 1 := (fun x v => Host.reduce IntOp.andi x v reducesTo_S100000_S_d0 h_S_) main_v1 main_c_0
  main_v2
-- ==== Kernel.lean ====
abbrev S100000x4x128 : Shape := ⟨3, ![100000, 4, 128]⟩
abbrev S100000 : Shape := ⟨1, ![100000]⟩
abbrev S400000x128 : Shape := ⟨2, ![400000, 128]⟩
abbrev S100000x4 : Shape := ⟨2, ![100000, 4]⟩
abbrev S400000 : Shape := ⟨1, ![400000]⟩
abbrev S25x1x16000 : Shape := ⟨3, ![25, 1, 16000]⟩
abbrev S512x128 : Shape := ⟨2, ![512, 128]⟩
abbrev S1x1x16000 : Shape := ⟨3, ![1, 1, 16000]⟩
abbrev S16000x128 : Shape := ⟨2, ![16000, 128]⟩
abbrev S512x1 : Shape := ⟨2, ![512, 1]⟩
abbrev S16000 : Shape := ⟨1, ![16000]⟩
abbrev S1x16000 : Shape := ⟨2, ![1, 16000]⟩
abbrev S1 : Shape := ⟨1, ![1]⟩
abbrev S1x1 : Shape := ⟨2, ![1, 1]⟩
abbrev S64x16000 : Shape := ⟨2, ![64, 16000]⟩
abbrev S64x128 : Shape := ⟨2, ![64, 128]⟩
abbrev S64x1 : Shape := ⟨2, ![64, 1]⟩
abbrev S64 : Shape := ⟨1, ![64]⟩
abbrev S512x16000 : Shape := ⟨2, ![512, 16000]⟩
abbrev S512 : Shape := ⟨1, ![512]⟩

abbrev nBuf : Space → Nat
  | .hbm => 7
  | .vmem => 7
  | .smem => 0
  | _ => 0

abbrev bufTy : (tb : Table) → Fin (tcTables nBuf tb) → BufTy
  | .hbm, ⟨0, _⟩ => ⟨S100000x4x128, .f32⟩
  | .hbm, ⟨1, _⟩ => ⟨S100000, .i32⟩
  | .hbm, ⟨2, _⟩ => ⟨S400000x128, .f32⟩
  | .hbm, ⟨3, _⟩ => ⟨S100000x4, .i32⟩
  | .hbm, ⟨4, _⟩ => ⟨S400000, .i32⟩
  | .hbm, ⟨5, _⟩ => ⟨S25x1x16000, .i32⟩
  | .hbm, ⟨6, _⟩ => ⟨S512x128, .f32⟩
  | .local _ .vmem, ⟨0, _⟩ => ⟨S1x1x16000, .i32⟩
  | .local _ .vmem, ⟨1, _⟩ => ⟨S1x1x16000, .i32⟩
  | .local _ .vmem, ⟨2, _⟩ => ⟨S16000x128, .f32⟩
  | .local _ .vmem, ⟨3, _⟩ => ⟨S16000x128, .f32⟩
  | .local _ .vmem, ⟨4, _⟩ => ⟨S512x128, .f32⟩
  | .local _ .vmem, ⟨5, _⟩ => ⟨S512x128, .f32⟩
  | .local _ .vmem, ⟨6, _⟩ => ⟨S512x1, .f32⟩
  | _, _ => ⟨S100000x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![25], ![false]⟩

def k0_mult1 (v11 : BitVec 32) : BitVec 32 :=
  let c0_i32_6 : BitVec 32 := 0#32
  let v17 : BitVec 1 := Scalar.cmpi .sgt v11 c0_i32_6
  let v18 : BitVec 32 := Scalar.extui v17
  let c0_i32_7 : BitVec 32 := 0#32
  let v19 : BitVec 1 := Scalar.cmpi .slt v11 c0_i32_7
  let v20 : BitVec 32 := Scalar.extui v19
  let v21 : BitVec 32 := Scalar.subi v18 v20
  let c8_i32 : BitVec 32 := 8#32
  let c0_i32_8 : BitVec 32 := 0#32
  let v22 : BitVec 1 := Scalar.cmpi .sgt c8_i32 c0_i32_8
  let v23 : BitVec 32 := Scalar.extui v22
  let c0_i32_9 : BitVec 32 := 0#32
  let v24 : BitVec 1 := Scalar.cmpi .slt c8_i32 c0_i32_9
  let v25 : BitVec 32 := Scalar.extui v24
  let v26 : BitVec 32 := Scalar.subi v23 v25
  let v27 : BitVec 1 := Scalar.cmpi .ne v21 v26
  let v28 : BitVec 32 := Scalar.remsi v11 c8_i32
  let c0_i32_10 : BitVec 32 := 0#32
  let v29 : BitVec 1 := Scalar.cmpi .ne v28 c0_i32_10
  let v30 : BitVec 1 := Scalar.andi v27 v29
  let v16 : BitVec 32 := Scalar.divsi v11 c8_i32
  let c1_i32 : BitVec 32 := 1#32
  let v31 : BitVec 32 := Scalar.subi v16 c1_i32
  let v32 : BitVec 32 := Scalar.select v30 v31 v16
  let c8_i32_11 : BitVec 32 := 8#32
  let v33 : BitVec 32 := Scalar.muli v32 c8_i32_11
  let c448_i32 : BitVec 32 := 448#32
  let v34 : BitVec 32 := Scalar.minsi v33 c448_i32
  v34

def k0_chk1 (v11 : BitVec 32) : Prop :=
  (8 ∣ (k0_mult1 v11).toNat)
theorem k0_mult1_dvd : ∀ (v11 : BitVec 32) (k0_hw1 : k0_chk1 v11), 8 ∣ (k0_mult1 v11).toNat := fun v11 k0_hw1 => k0_hw1

def k0_off1 (v11 : BitVec 32) : Fin 2 → Nat :=
  let c0_i32_6 : BitVec 32 := 0#32
  let v17 : BitVec 1 := Scalar.cmpi .sgt v11 c0_i32_6
  let v18 : BitVec 32 := Scalar.extui v17
  let c0_i32_7 : BitVec 32 := 0#32
  let v19 : BitVec 1 := Scalar.cmpi .slt v11 c0_i32_7
  let v20 : BitVec 32 := Scalar.extui v19
  let v21 : BitVec 32 := Scalar.subi v18 v20
  let c8_i32 : BitVec 32 := 8#32
  let c0_i32_8 : BitVec 32 := 0#32
  let v22 : BitVec 1 := Scalar.cmpi .sgt c8_i32 c0_i32_8
  let v23 : BitVec 32 := Scalar.extui v22
  let c0_i32_9 : BitVec 32 := 0#32
  let v24 : BitVec 1 := Scalar.cmpi .slt c8_i32 c0_i32_9
  let v25 : BitVec 32 := Scalar.extui v24
  let v26 : BitVec 32 := Scalar.subi v23 v25
  let v27 : BitVec 1 := Scalar.cmpi .ne v21 v26
  let v28 : BitVec 32 := Scalar.remsi v11 c8_i32
  let c0_i32_10 : BitVec 32 := 0#32
  let v29 : BitVec 1 := Scalar.cmpi .ne v28 c0_i32_10
  let v30 : BitVec 1 := Scalar.andi v27 v29
  let v16 : BitVec 32 := Scalar.divsi v11 c8_i32
  let c1_i32 : BitVec 32 := 1#32
  let v31 : BitVec 32 := Scalar.subi v16 c1_i32
  let v32 : BitVec 32 := Scalar.select v30 v31 v16
  let c8_i32_11 : BitVec 32 := 8#32
  let v33 : BitVec 32 := Scalar.muli v32 c8_i32_11
  let c448_i32 : BitVec 32 := 448#32
  let v34 : BitVec 32 := Scalar.minsi v33 c448_i32
  let v35 : BitVec 32 := v34
  let v56 : Index := Scalar.indexCast v35
  let c0_16 : Index := 0#32
  ![v56.toNat, 0]
def k0_cond2 (v11 : BitVec 32) (v15 : BitVec 32) : BitVec 1 :=
  let c0_i32_6 : BitVec 32 := 0#32
  let v17 : BitVec 1 := Scalar.cmpi .sgt v11 c0_i32_6
  let v18 : BitVec 32 := Scalar.extui v17
  let c0_i32_7 : BitVec 32 := 0#32
  let v19 : BitVec 1 := Scalar.cmpi .slt v11 c0_i32_7
  let v20 : BitVec 32 := Scalar.extui v19
  let v21 : BitVec 32 := Scalar.subi v18 v20
  let c8_i32 : BitVec 32 := 8#32
  let c0_i32_8 : BitVec 32 := 0#32
  let v22 : BitVec 1 := Scalar.cmpi .sgt c8_i32 c0_i32_8
  let v23 : BitVec 32 := Scalar.extui v22
  let c0_i32_9 : BitVec 32 := 0#32
  let v24 : BitVec 1 := Scalar.cmpi .slt c8_i32 c0_i32_9
  let v25 : BitVec 32 := Scalar.extui v24
  let v26 : BitVec 32 := Scalar.subi v23 v25
  let v27 : BitVec 1 := Scalar.cmpi .ne v21 v26
  let v28 : BitVec 32 := Scalar.remsi v11 c8_i32
  let c0_i32_10 : BitVec 32 := 0#32
  let v29 : BitVec 1 := Scalar.cmpi .ne v28 c0_i32_10
  let v30 : BitVec 1 := Scalar.andi v27 v29
  let v16 : BitVec 32 := Scalar.divsi v11 c8_i32
  let c1_i32 : BitVec 32 := 1#32
  let v31 : BitVec 32 := Scalar.subi v16 c1_i32
  let v32 : BitVec 32 := Scalar.select v30 v31 v16
  let c8_i32_11 : BitVec 32 := 8#32
  let v33 : BitVec 32 := Scalar.muli v32 c8_i32_11
  let c448_i32 : BitVec 32 := 448#32
  let v34 : BitVec 32 := Scalar.minsi v33 c448_i32
  let v35 : BitVec 32 := v34
  let v36 : BitVec 32 := Scalar.subi v15 v35
  let c64_i32 : BitVec 32 := 64#32
  let v37 : BitVec 1 := Scalar.cmpi .slt v36 c64_i32
  let v38 : BitVec 32 := Scalar.extui v37
  let c0_i32_12 : BitVec 32 := 0#32
  let v39 : BitVec 1 := Scalar.cmpi .ne v38 c0_i32_12
  v39

def k0_off2 (v11 : BitVec 32) : Fin 2 → Nat :=
  let c0_i32_6 : BitVec 32 := 0#32
  let v17 : BitVec 1 := Scalar.cmpi .sgt v11 c0_i32_6
  let v18 : BitVec 32 := Scalar.extui v17
  let c0_i32_7 : BitVec 32 := 0#32
  let v19 : BitVec 1 := Scalar.cmpi .slt v11 c0_i32_7
  let v20 : BitVec 32 := Scalar.extui v19
  let v21 : BitVec 32 := Scalar.subi v18 v20
  let c8_i32 : BitVec 32 := 8#32
  let c0_i32_8 : BitVec 32 := 0#32
  let v22 : BitVec 1 := Scalar.cmpi .sgt c8_i32 c0_i32_8
  let v23 : BitVec 32 := Scalar.extui v22
  let c0_i32_9 : BitVec 32 := 0#32
  let v24 : BitVec 1 := Scalar.cmpi .slt c8_i32 c0_i32_9
  let v25 : BitVec 32 := Scalar.extui v24
  let v26 : BitVec 32 := Scalar.subi v23 v25
  let v27 : BitVec 1 := Scalar.cmpi .ne v21 v26
  let v28 : BitVec 32 := Scalar.remsi v11 c8_i32
  let c0_i32_10 : BitVec 32 := 0#32
  let v29 : BitVec 1 := Scalar.cmpi .ne v28 c0_i32_10
  let v30 : BitVec 1 := Scalar.andi v27 v29
  let v16 : BitVec 32 := Scalar.divsi v11 c8_i32
  let c1_i32 : BitVec 32 := 1#32
  let v31 : BitVec 32 := Scalar.subi v16 c1_i32
  let v32 : BitVec 32 := Scalar.select v30 v31 v16
  let c8_i32_11 : BitVec 32 := 8#32
  let v33 : BitVec 32 := Scalar.muli v32 c8_i32_11
  let c448_i32 : BitVec 32 := 448#32
  let v34 : BitVec 32 := Scalar.minsi v33 c448_i32
  let v35 : BitVec 32 := v34
  let v63 : Index := Scalar.indexCast v35
  let c0_18 : Index := 0#32
  ![v63.toNat, 0]

def k0_chk2 (v11 : BitVec 32) (v15 : BitVec 32) : Prop :=
  (∀ (k0_h2 : k0_cond2 v11 v15 = 1#1), ∀ a, (k0_off1 v11) a + S64x128.size a ≤ S512x128.size a) ∧
  (∀ (k0_h2 : k0_cond2 v11 v15 = 1#1), ∀ a, (k0_off2 v11) a + S64x1.size a ≤ S512x1.size a)
theorem k0_off1_inb : ∀ (v11 : BitVec 32) (v15 : BitVec 32) (k0_hw2 : k0_chk2 v11 v15), ∀ (k0_h2 : k0_cond2 v11 v15 = 1#1), ∀ a, (k0_off1 v11) a + S64x128.size a ≤ S512x128.size a := fun v11 v15 k0_hw2 k0_h2 => k0_hw2.1 k0_h2
theorem k0_off2_inb : ∀ (v11 : BitVec 32) (v15 : BitVec 32) (k0_hw2 : k0_chk2 v11 v15), ∀ (k0_h2 : k0_cond2 v11 v15 = 1#1), ∀ a, (k0_off2 v11) a + S64x1.size a ≤ S512x1.size a := fun v11 v15 k0_hw2 k0_h2 => k0_hw2.2 k0_h2

def k0_cond4 (i : grid0.Coords) : BitVec 1 :=
  let arg0 : BitVec 32 := BitVec.ofNat 32 (i 0).val
  let c24_i32 : BitVec 32 := 24#32
  let v43 : BitVec 1 := Scalar.cmpi .eq arg0 c24_i32
  let v44 : BitVec 32 := Scalar.extui v43
  let c0_i32_14 : BitVec 32 := 0#32
  let v45 : BitVec 1 := Scalar.cmpi .ne v44 c0_i32_14
  v45

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x16000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S100000x4x128 : Shape := ⟨3, ![100000, 4, 128]⟩
abbrev S100000 : Shape := ⟨1, ![100000]⟩
abbrev S_ : Shape := ⟨0, ![]⟩
abbrev S100000x128 : Shape := ⟨2, ![100000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩

abbrev nBuf : Space → Nat
  | .hbm => 23
  | .vmem => 0
  | .smem => 0
  | _ => 0

abbrev bufTy : (tb : Table) → Fin (tcTables nBuf tb) → BufTy
  | .hbm, ⟨0, _⟩ => ⟨S100000x4x128, .f32⟩
  | .hbm, ⟨1, _⟩ => ⟨S100000, .i32⟩
  | .hbm, ⟨2, _⟩ => ⟨S_, .f32⟩
  | .hbm, ⟨3, _⟩ => ⟨S100000x128, .f32⟩
  | .hbm, ⟨4, _⟩ => ⟨S_, .f32⟩
  | .hbm, ⟨5, _⟩ => ⟨S100000x128, .f32⟩
  | .hbm, ⟨6, _⟩ => ⟨S100000x128, .f32⟩
  | .hbm, ⟨7, _⟩ => ⟨S_, .f32⟩
  | .hbm, ⟨8, _⟩ => ⟨S512x128, .f32⟩
  | .hbm, ⟨9, _⟩ => ⟨S100000x1, .i32⟩
  | .hbm, ⟨10, _⟩ => ⟨S512x128, .f32⟩
  | .hbm, ⟨11, _⟩ => ⟨S_, .f32⟩
  | .hbm, ⟨12, _⟩ => ⟨S100000, .f32⟩
  | .hbm, ⟨13, _⟩ => ⟨S_, .f32⟩
  | .hbm, ⟨14, _⟩ => ⟨S512, .f32⟩
  | .hbm, ⟨15, _⟩ => ⟨S100000x1, .i32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S512x1, .f32⟩
  | .hbm, ⟨21, _⟩ => ⟨S512x128, .f32⟩
  | .hbm, ⟨22, _⟩ => ⟨S512x128, .f32⟩
  | _, _ => ⟨S100000x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Proof.Words.lean ====
/-
  The words the pooling kernel computes from one block of segment numbers: the least and the greatest of the
  block, the first row of the 64-row window that starts at the least one rounded down to a multiple of eight
  (at most 448), and the choice between updating that window and updating all 512 rows.
-/
module

public import proofs.«01_k».proof.Proof.Gen.KernelIdeal.Skeleton
public import Idealize.ShloMosaic.Lib.WordArith
public import Idealize.ShloMosaic.Lib.SortNet.Extract

@[expose] public section

namespace Cert.Pool

open Cert.KernelIdeal Cert.KernelIdeal.Gen
open Idealize.ShloMosaic Idealize.ShloMosaic.WordArith

/-- A signed quotient by eight of a word below `2 ^ 31` is the natural quotient. -/
theorem toNat_divsi_eight (x : BitVec 32) (hx : x.toNat < 2 ^ 31) : (Scalar.divsi x 8#32).toNat = x.toNat / 8 := by
  have hc : ¬ IntOp.SDivCorner x 8#32 := by
    unfold IntOp.SDivCorner
    rintro (h | ⟨-, h⟩) <;> exact absurd h (by decide)
  have hm : x.msb = false := by rw [BitVec.msb_eq_decide]; simp; omega
  show (IntOp.divsi .scalar x 8#32).toNat = _
  unfold IntOp.divsi
  rw [if_neg hc, BitVec.sdiv_eq, hm, show (8#32 : BitVec 32).msb = false from by decide]
  show (x / 8#32).toNat = _
  rw [BitVec.toNat_udiv]; rfl

/-- The window's first row, as a number: the least segment number rounded down to a multiple of eight, at most 448. -/
theorem toNat_base (x : BitVec 32) (hx : x.toNat < 2 ^ 31) : (k0_mult1 x).toNat = min (x.toNat / 8 * 8) 448 := by
  have hs : k0_mult1 x = IntOp.minsi (Scalar.muli (Scalar.divsi x 8#32) 8#32) 448#32 := by
    by_cases h0 : x = 0#32
    · subst h0; decide
    · have hpos : (0#32 : BitVec 32).slt x = true := by
        rw [BitVec.slt_iff_toInt_lt]
        have e := BitVec.toInt_eq_toNat_cond x
        have hne : x.toNat ≠ 0 := fun h => h0 (BitVec.eq_of_toNat_eq (by simpa using h))
        split at e <;> simp <;> omega
      have hneg : x.slt 0#32 = false := by
        rw [Bool.eq_false_iff]; intro h
        rw [BitVec.slt_iff_toInt_lt] at h hpos
        omega
      unfold k0_mult1
      simp only [Scalar.cmpi, IntOp.cmpi, hpos, hneg]
      rw [show (Scalar.subi (Scalar.extui (BitVec.ofBool true)) (Scalar.extui (BitVec.ofBool false)) !=
        Scalar.subi (Scalar.extui (BitVec.ofBool ((0#32 : BitVec 32).slt 8#32)))
          (Scalar.extui (BitVec.ofBool ((8#32 : BitVec 32).slt 0#32)))) = false from by decide]
      rw [show ∀ b : Bool, Scalar.andi (BitVec.ofBool false) (BitVec.ofBool b) = 0#1 from by decide]
      rfl
  rw [hs, toNat_minsi_of_lt _ _ ?_ (by decide)]
  · show min (Scalar.divsi x 8#32 * 8#32).toNat _ = _
    rw [BitVec.toNat_mul, toNat_divsi_eight x hx]
    simp; omega
  · show (Scalar.divsi x 8#32 * 8#32).toNat < _
    rw [BitVec.toNat_mul, toNat_divsi_eight x hx]
    simp; omega

/-- The first offsets of the window of the sums are its first row and column zero. -/
theorem off1_eq (x : BitVec 32) : k0_off1 x = ![(k0_mult1 x).toNat, 0] := rfl

/-- The first offsets of the window of the counts are its first row and column zero. -/
theorem off2_eq (x : BitVec 32) : k0_off2 x = ![(k0_mult1 x).toNat, 0] := rfl

/-- The first row is a multiple of eight. -/
theorem chk1 (x : BitVec 32) (hx : x.toNat < 2 ^ 31) : k0_chk1 x := by
  unfold k0_chk1
  rw [toNat_base x hx]
  omega

/-- The window lies within the 512 rows, whatever the choice. -/
theorem chk2 (x y : BitVec 32) (hx : x.toNat < 2 ^ 31) : k0_chk2 x y := by
  have hb := toNat_base x hx
  unfold k0_chk2
  rw [off1_eq, off2_eq]
  constructor
  · intro _ a
    match a with
    | 0 => show (k0_mult1 x).toNat + 64 ≤ 512; omega
    | 1 => show 0 + 128 ≤ 128; omega
  · intro _ a
    match a with
    | 0 => show (k0_mult1 x).toNat + 64 ≤ 512; omega
    | 1 => show 0 + 1 ≤ 1; omega

/-- The window is chosen exactly when the greatest segment number lies less than 64 above its first row. -/
theorem cond2_iff (x y : BitVec 32) (hx : x.toNat < 2 ^ 31) (hy : y.toNat < 2 ^ 31) :
    k0_cond2 x y = 1#1 ↔ y.toNat < (k0_mult1 x).toNat + 64 := by
  have hb := toNat_base x hx
  have hs : k0_cond2 x y = Scalar.cmpi .ne (Scalar.extui (Scalar.cmpi .slt (Scalar.subi y (k0_mult1 x)) 64#32)) 0#32 := rfl
  have hd : (Scalar.subi y (k0_mult1 x)).toInt = (y.toNat : ℤ) - (k0_mult1 x).toNat := by
    have e1 := BitVec.toInt_eq_toNat_cond y
    have e2 := BitVec.toInt_eq_toNat_cond (k0_mult1 x)
    have := toInt_subi_of_nonneg y (k0_mult1 x) (by split at e1 <;> omega) (by split at e2 <;> omega)
    have hh : (Scalar.subi y (k0_mult1 x)).toInt = y.toInt - (k0_mult1 x).toInt := this
    split at e1 <;> split at e2 <;> omega
  rw [hs]
  show Scalar.cmpi .ne (Scalar.extui (BitVec.ofBool ((Scalar.subi y (k0_mult1 x)).slt 64#32))) 0#32 = 1#1 ↔ _
  have h64 : (64#32 : BitVec 32).toInt = 64 := by decide
  by_cases h : (Scalar.subi y (k0_mult1 x)).slt 64#32 = true
  · rw [h]
    rw [BitVec.slt_iff_toInt_lt, hd, h64] at h
    exact iff_of_true (by decide) (by omega)
  · rw [Bool.not_eq_true] at h
    rw [h]
    have h' : ¬ (Scalar.subi y (k0_mult1 x)).toInt < (64#32 : BitVec 32).toInt := by
      rw [← BitVec.slt_iff_toInt_lt, h]; decide
    rw [hd, h64] at h'
    exact iff_of_false (by decide) (by omega)

/-- A word that is not negative, read signed, is below `2 ^ 31`. -/
theorem toNat_lt_of_nonneg (x : BitVec 32) (h : 0 ≤ x.toInt) : x.toNat < 2 ^ 31 := by
  have e := BitVec.toInt_eq_toNat_cond x
  have := x.isLt
  split at e <;> omega

/-- The signed reading of a word below `2 ^ 31` is its natural one. -/
theorem toInt_of_lt (x : BitVec 32) (h : x.toNat < 2 ^ 31) : x.toInt = x.toNat := by
  have e := BitVec.toInt_eq_toNat_cond x
  split at e <;> omega

/-- A fold of the signed minimum over a set is at most every word of the set. -/
theorem fold_minsi_le {ι : Type} [DecidableEq ι] (g : ι → BitVec 32) (s : Finset ι) (z : BitVec 32) (i : ι) (hi : i ∈ s) :
    (s.fold IKind.minsi.op z g).toInt ≤ (g i).toInt := by
  induction s using Finset.induction_on with
  | empty => exact absurd hi (Finset.notMem_empty i)
  | insert a s ha ih =>
    rw [Finset.fold_insert ha]
    show (IntOp.minsi _ _).toInt ≤ _
    rw [SortNet.toInt_minsi]
    rcases Finset.mem_insert.mp hi with rfl | h
    · exact min_le_left _ _
    · exact (min_le_right _ _).trans (ih h)

/-- A fold of the signed minimum of words that are not negative, from one that is not, is not negative. -/
theorem fold_minsi_nonneg {ι : Type} [DecidableEq ι] (g : ι → BitVec 32) (s : Finset ι) (z : BitVec 32) (hz : 0 ≤ z.toInt)
    (hg : ∀ i ∈ s, 0 ≤ (g i).toInt) : 0 ≤ (s.fold IKind.minsi.op z g).toInt := by
  induction s using Finset.induction_on with
  | empty => exact hz
  | insert a s ha ih =>
    rw [Finset.fold_insert ha]
    show 0 ≤ (IntOp.minsi _ _).toInt
    rw [SortNet.toInt_minsi]
    exact le_min (hg a (Finset.mem_insert_self a s)) (ih fun i h => hg i (Finset.mem_insert_of_mem h))

/-- A fold of the signed maximum over a set is at least every word of the set. -/
theorem le_fold_maxsi {ι : Type} [DecidableEq ι] (g : ι → BitVec 32) (s : Finset ι) (z : BitVec 32) (i : ι) (hi : i ∈ s) :
    (g i).toInt ≤ (s.fold IKind.maxsi.op z g).toInt := by
  induction s using Finset.induction_on with
  | empty => exact absurd hi (Finset.notMem_empty i)
  | insert a s ha ih =>
    rw [Finset.fold_insert ha]
    show _ ≤ (IntOp.maxsi _ _).toInt
    rw [SortNet.toInt_maxsi]
    rcases Finset.mem_insert.mp hi with rfl | h
    · exact le_max_left _ _
    · exact (ih h).trans (le_max_right _ _)

/-- The test of the wide branch. -/
abbrev condWide (v11 v15 : BitVec 32) : Prop :=
  Scalar.cmpi .ne (Scalar.extui (Scalar.xori (Scalar.cmpi .slt (Scalar.subi v15 (k0_mult1 v11)) 64#32) 1#1)) 0#32 = 1#1

/-- The two tests of the body are opposite: the wide branch runs when the narrow one does not. -/
theorem condWide_iff (v11 v15 : BitVec 32) : condWide v11 v15 ↔ ¬ k0_cond2 v11 v15 = 1#1 := by
  have key : ∀ b : BitVec 1, (Scalar.cmpi .ne (Scalar.extui (Scalar.xori b 1#1) : BitVec 32) 0#32 = 1#1)
      ↔ ¬ Scalar.cmpi .ne (Scalar.extui b : BitVec 32) 0#32 = 1#1 := by decide
  exact key _

end Cert.Pool
-- ==== Proof.Body.lean ====
module

public import proofs.«01_k».proof.Proof.Words
public import proofs.«01_k».proof.Proof.Gen.KernelIdeal.Frame
public import Idealize.ShloMosaic.Lib.Pipeline.TableIdle
public import Idealize.ShloMosaic.Lib.WritesUnit
public import Idealize.ShloMosaic.Lib.VecWindow
public import Idealize.ShloMosaic.Lib.Tactic.Stretches

@[expose] public section

set_option maxRecDepth 16384

noncomputable section

namespace Cert.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The least segment number of a block. -/
abbrev lo (x0 : Vec F S1x1x16000 .i32) : BitVec 32 := extractAt ![0, 0] (k0_pay12 x0) inpos_S1x1_p0_0
/-- The greatest segment number of a block. -/
abbrev hi (x0 : Vec F S1x1x16000 .i32) : BitVec 32 := extractAt ![0, 0] (k0_pay13 x0) inpos_S1x1_p0_0

abbrev condFirst (i : grid0.Coords) : Prop :=
  Scalar.cmpi .ne (Scalar.extui (Scalar.cmpi .eq (BitVec.ofNat 32 (i 0).val) 0#32)) 0#32 = 1#1

open Classical in
/-- The sums after one block, from the sums before it: the block's 64-row window when its segments fit there, else every row. -/
def stepA (x0 : Vec F S1x1x16000 .i32) (x1 : Vec F S16000x128 .f32) (A : Vec F S512x128 .f32) : Vec F S512x128 .f32 :=
  if h : k0_chk2 (lo x0) (hi x0) ∧ k0_cond2 (lo x0) (hi x0) = 1#1 then
    VecWindow.put A (k0_off1 (lo x0)) S64x128.size
      (k0_pay2 (k0_pay10 x1) (k0_pay11 x0) (k0_mult1 (lo x0))
        (VecWindow.window A (k0_off1 (lo x0)) S64x128.size (k0_off1_inb _ _ h.1 h.2)))
  else k0_pay5 (k0_pay10 x1) (k0_pay11 x0) A

open Classical in
/-- The counts after one block, from the counts before it. -/
def stepC (x0 : Vec F S1x1x16000 .i32) (C : Vec F S512x1 .f32) : Vec F S512x1 .f32 :=
  if h : k0_chk2 (lo x0) (hi x0) ∧ k0_cond2 (lo x0) (hi x0) = 1#1 then
    VecWindow.put C (k0_off2 (lo x0)) S64x1.size
      (k0_pay3 (k0_pay11 x0) (k0_mult1 (lo x0))
        (VecWindow.window C (k0_off2 (lo x0)) S64x1.size (k0_off2_inb _ _ h.1 h.2)))
  else k0_pay6 (k0_pay11 x0) C

/-- The sums a block starts from: zero at the first block. -/
def startA (i : grid0.Coords) (A : Vec F S512x128 .f32) : Vec F S512x128 .f32 := if condFirst i then k0_pay8 else A
/-- The counts a block starts from: zero at the first block. -/
def startC (i : grid0.Coords) (C : Vec F S512x1 .f32) : Vec F S512x1 .f32 := if condFirst i then k0_pay9 else C

section Reads

variable {κ : Kind} {sp : Space}

theorem read_narrowA (v : View sig κ sp S512x128 .f32) (f : v.ty.Contents (Elt F)) (L : List (View.Piece (Elt F) S512x128 .f32))
    (x0 : Vec F S1x1x16000 .i32) (x1 x1' : Vec F S16000x128 .f32) (A : Vec F S512x128 .f32)
    (hk2 : k0_chk2 (lo x0) (hi x0)) (hn : k0_cond2 (lo x0) (hi x0) = 1#1) (hA : v.read (Elt F) (v.writes (Elt F) f L) = A) (h1 : x1' = x1)
    (ld : Vec F S64x128 .f32) (hld : ld = VecWindow.window A (k0_off1 (lo x0)) S64x128.size (k0_off1_inb _ _ hk2 hn)) :
    v.read (Elt F) (v.writes (Elt F) f (⟨Rect.unit (s := S512x128) (k0_off1 (lo x0)) S64x128.size (k0_off1_inb _ _ hk2 hn),
      k0_pay2 (k0_pay10 x1') (k0_pay11 x0) (k0_mult1 (lo x0)) ld⟩ :: L)) = stepA x0 x1 A := by
  subst h1 hld
  rw [View.read_writes_cons_put _ _ _ _ _ rfl, hA]
  exact (dif_pos ⟨hk2, hn⟩ : stepA x0 x1' A = _).symm

theorem read_wideA (v : View sig κ sp S512x128 .f32) (f : v.ty.Contents (Elt F)) (L : List (View.Piece (Elt F) S512x128 .f32))
    (x0 : Vec F S1x1x16000 .i32) (x1 x1' : Vec F S16000x128 .f32) (A : Vec F S512x128 .f32)
    (hn : ¬ k0_cond2 (lo x0) (hi x0) = 1#1) (h1 : x1' = x1)
    (ld : Vec F S512x128 .f32) (hld : ld = A) :
    v.read (Elt F) (v.writes (Elt F) f (⟨Rect.unit (s := S512x128) ![0, 0] S512x128.size inb_S512x128_S512x128_0_0,
      k0_pay5 (k0_pay10 x1') (k0_pay11 x0) ld⟩ :: L)) = stepA x0 x1 A := by
  subst h1 hld
  rw [View.read_writes_full]
  exact (dif_neg (fun h => hn h.2) : stepA x0 x1' ld = _).symm

theorem read_narrowC (v : View sig κ sp S512x1 .f32) (f : v.ty.Contents (Elt F)) (L : List (View.Piece (Elt F) S512x1 .f32))
    (x0 : Vec F S1x1x16000 .i32) (A : Vec F S512x1 .f32)
    (hk2 : k0_chk2 (lo x0) (hi x0)) (hn : k0_cond2 (lo x0) (hi x0) = 1#1) (hA : v.read (Elt F) (v.writes (Elt F) f L) = A)
    (ld : Vec F S64x1 .f32) (hld : ld = VecWindow.window A (k0_off2 (lo x0)) S64x1.size (k0_off2_inb _ _ hk2 hn)) :
    v.read (Elt F) (v.writes (Elt F) f (⟨Rect.unit (s := S512x1) (k0_off2 (lo x0)) S64x1.size (k0_off2_inb _ _ hk2 hn),
      k0_pay3 (k0_pay11 x0) (k0_mult1 (lo x0)) ld⟩ :: L)) = stepC x0 A := by
  subst hld
  rw [View.read_writes_cons_put _ _ _ _ _ rfl, hA]
  exact (dif_pos ⟨hk2, hn⟩ : stepC x0 A = _).symm

theorem read_wideC (v : View sig κ sp S512x1 .f32) (f : v.ty.Contents (Elt F)) (L : List (View.Piece (Elt F) S512x1 .f32))
    (x0 : Vec F S1x1x16000 .i32) (A : Vec F S512x1 .f32)
    (hn : ¬ k0_cond2 (lo x0) (hi x0) = 1#1) (ld : Vec F S512x1 .f32) (hld : ld = A) :
    v.read (Elt F) (v.writes (Elt F) f (⟨Rect.unit (s := S512x1) ![0, 0] S512x1.size inb_S512x1_S512x1_0_0,
      k0_pay6 (k0_pay11 x0) ld⟩ :: L)) = stepC x0 A := by
  subst hld
  rw [View.read_writes_full]
  exact (dif_neg (fun h => hn h.2) : stepC x0 ld = _).symm

end Reads

set_option maxHeartbeats 2000000 in
/-- One grid point of the kernel, from any contents of its five buffers: the two input blocks stay, the scratch holds the sums and counts
after the block, and at the last point the output block is their quotient. -/
theorem body_run (c : Dev nD) (E : Set ℕ) (i : grid0.Coords) (arg1 : Memref sig .tc .vmem S1x1x16000 .i32) (harg1 : arg1.IsWhole) (arg2 : Memref sig .tc .vmem S16000x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x1 .f32) (harg5 : arg5.IsWhole)
    (x0 : Vec F S1x1x16000 .i32) (x1 : Vec F S16000x128 .f32) (d : Vec F S512x128 .f32) (A : Vec F S512x128 .f32) (C : Vec F S512x1 .f32)
    (hk1 : k0_chk1 (lo x0)) (hk2 : k0_chk2 (lo x0) (hi x0)) (hfl : condFirst i → ¬ k0_cond4 i = 1#1) (K : PUnit → sProp 𝕄) :
    iprop(owns (c : Thread nD τ) arg1 fullShare x0 ∗ owns (c : Thread nD τ) arg2 fullShare x1 ∗ owns (c : Thread nD τ) arg3 fullShare d
        ∗ owns (c : Thread nD τ) arg4 fullShare A ∗ owns (c : Thread nD τ) arg5 fullShare C
        ∗ (iprop(owns (c : Thread nD τ) arg1 fullShare x0 ∗ owns (c : Thread nD τ) arg2 fullShare x1
            ∗ owns (c : Thread nD τ) arg3 fullShare (if k0_cond4 i = 1#1 then k0_pay7 (stepA x0 x1 (startA i A)) (stepC x0 (startC i C)) else d)
            ∗ owns (c : Thread nD τ) arg4 fullShare (stepA x0 x1 (startA i A))
            ∗ owns (c : Thread nD τ) arg5 fullShare (stepC x0 (startC i C))) -∗ K ⟨⟩))
      ⊢ wp frame (wpE (defs₀ (F := F)) Variants.none c none) E (cc0__pool_body i arg1 harg1 arg2 harg2 arg3 harg3 arg4 harg4 arg5 harg5) K := by
  simp only [cc0__pool_body_eq_skeleton]; unfold cc0__pool_body_skel
  simp only [k0_part1_eq_skeleton]
  rw [owns_eq_rep (c : Thread nD τ) arg1 fullShare x0, owns_eq_rep (c : Thread nD τ) arg2 fullShare x1, owns_eq_rep (c : Thread nD τ) arg3 fullShare d, owns_eq_rep (c : Thread nD τ) arg4 fullShare A, owns_eq_rep (c : Thread nD τ) arg5 fullShare C]
  have e1 : arg1.view.readAt (Elt F) (Rect.unit (s := S1x1x16000) ![0, 0, 0] S1x1x16000.size inb_S1x1x16000_S1x1x16000_0_0_0).toLoadRect (arg1.view.rep x0) = x0 := View.readAt_rep_full _ _ _
  by_cases h1 : condFirst i
  · have h4 := hfl h1
    rw [show startA i A = k0_pay8 from if_pos h1, show startC i C = k0_pay9 from if_pos h1, if_neg h4]
    by_cases hn : k0_cond2 (lo x0) (hi x0) = 1#1
    · have hw := mt (condWide_iff (lo x0) (hi x0)).mp (not_not.mpr hn)
      iintro ⟨H1, H2, H3, H4, H5, Hk⟩
      sl_exec (disch := first | (guard_target = k0_chk1 _; exact hk1) | (guard_target = k0_chk2 _ _; exact hk2) | (guard_target = k0_cond2 _ _ = _; exact hn) | (guard_target = ¬ k0_cond2 _ _ = _; exact hn) | (guard_target = k0_cond4 _ = _; exact h4) | (guard_target = ¬ k0_cond4 _ = _; exact h4) | exact hw)
      sl_step
      iapply Hk
      unfold owns
      isplitl [H1]
      · iexact H1
      isplitl [H2]
      · iexact H2
      isplitl [H3]
      · iexists _; isplitr; swap; · iexact H3
        ipureintro
        exact View.read_rep _ _
      isplitl [H4]
      · iexists _; isplitr; swap; · iexact H4
        ipureintro
        sl_open_run
        exact (read_narrowA _ _ _ _ _ _ _ hk2 hn (View.read_writes_full _ _ _ _ _) (View.readAt_rep_full _ _ _) _ ((View.readAt_unit _ _ _ rfl _).trans (congrArg (fun X => VecWindow.window X _ _ _) (View.read_writes_full _ _ _ _ _))))
      · iexists _; isplitr; swap; · iexact H5
        ipureintro
        sl_open_run
        exact (read_narrowC _ _ _ _ _ hk2 hn (View.read_writes_full _ _ _ _ _) _ ((View.readAt_unit _ _ _ rfl _).trans (congrArg (fun X => VecWindow.window X _ _ _) (View.read_writes_full _ _ _ _ _))))
    · have hw := (condWide_iff (lo x0) (hi x0)).mpr hn
      iintro ⟨H1, H2, H3, H4, H5, Hk⟩
      sl_exec (disch := first | (guard_target = k0_chk1 _; exact hk1) | (guard_target = k0_chk2 _ _; exact hk2) | (guard_target = k0_cond2 _ _ = _; exact hn) | (guard_target = ¬ k0_cond2 _ _ = _; exact hn) | (guard_target = k0_cond4 _ = _; exact h4) | (guard_target = ¬ k0_cond4 _ = _; exact h4) | exact hw)
      sl_step
      iapply Hk
      unfold owns
      isplitl [H1]
      · iexact H1
      isplitl [H2]
      · iexact H2
      isplitl [H3]
      · iexists _; isplitr; swap; · iexact H3
        ipureintro
        exact View.read_rep _ _
      isplitl [H4]
      · iexists _; isplitr; swap; · iexact H4
        ipureintro
        sl_open_run
        exact (read_wideA _ _ _ _ _ _ _ hn (View.readAt_rep_full _ _ _) _ (View.readCov_full _ _ _ _ _))
      · iexists _; isplitr; swap; · iexact H5
        ipureintro
        sl_open_run
        exact (read_wideC _ _ _ _ _ hn _ (View.readCov_full _ _ _ _ _))
  · rw [show startA i A = A from if_neg h1, show startC i C = C from if_neg h1]
    by_cases h4 : k0_cond4 i = 1#1
    · rw [if_pos h4]
      by_cases hn : k0_cond2 (lo x0) (hi x0) = 1#1
      · have hw := mt (condWide_iff (lo x0) (hi x0)).mp (not_not.mpr hn)
        iintro ⟨H1, H2, H3, H4, H5, Hk⟩
        sl_exec (disch := first | (guard_target = k0_chk1 _; exact hk1) | (guard_target = k0_chk2 _ _; exact hk2) | (guard_target = k0_cond2 _ _ = _; exact hn) | (guard_target = ¬ k0_cond2 _ _ = _; exact hn) | (guard_target = k0_cond4 _ = _; exact h4) | (guard_target = ¬ k0_cond4 _ = _; exact h4) | exact hw)
        sl_step
        iapply Hk
        unfold owns
        isplitl [H1]
        · iexact H1
        isplitl [H2]
        · iexact H2
        isplitl [H3]
        · iexists _; isplitr; swap; · iexact H3
          ipureintro
          sl_open_run
          exact (View.read_writes_full _ _ _ _ _).trans (congrArg₂ k0_pay7 ((View.readAt_full _ _ _).trans (read_narrowA _ _ [] _ _ _ _ hk2 hn (View.read_rep _ _) (View.readAt_rep_full _ _ _) _ (View.readAt_rep_unit _ _ _ rfl _))) ((View.readAt_full _ _ _).trans (read_narrowC _ _ [] _ _ hk2 hn (View.read_rep _ _) _ (View.readAt_rep_unit _ _ _ rfl _))))
        isplitl [H4]
        · iexists _; isplitr; swap; · iexact H4
          ipureintro
          sl_open_run
          exact (read_narrowA _ _ [] _ _ _ _ hk2 hn (View.read_rep _ _) (View.readAt_rep_full _ _ _) _ (View.readAt_rep_unit _ _ _ rfl _))
        · iexists _; isplitr; swap; · iexact H5
          ipureintro
          sl_open_run
          exact (read_narrowC _ _ [] _ _ hk2 hn (View.read_rep _ _) _ (View.readAt_rep_unit _ _ _ rfl _))
      · have hw := (condWide_iff (lo x0) (hi x0)).mpr hn
        iintro ⟨H1, H2, H3, H4, H5, Hk⟩
        sl_exec (disch := first | (guard_target = k0_chk1 _; exact hk1) | (guard_target = k0_chk2 _ _; exact hk2) | (guard_target = k0_cond2 _ _ = _; exact hn) | (guard_target = ¬ k0_cond2 _ _ = _; exact hn) | (guard_target = k0_cond4 _ = _; exact h4) | (guard_target = ¬ k0_cond4 _ = _; exact h4) | exact hw)
        sl_step
        iapply Hk
        unfold owns
        isplitl [H1]
        · iexact H1
        isplitl [H2]
        · iexact H2
        isplitl [H3]
        · iexists _; isplitr; swap; · iexact H3
          ipureintro
          sl_open_run
          exact (View.read_writes_full _ _ _ _ _).trans (congrArg₂ k0_pay7 ((View.readAt_full _ _ _).trans (read_wideA _ _ _ _ _ _ _ hn (View.readAt_rep_full _ _ _) _ (View.readAt_rep_full _ _ _))) ((View.readAt_full _ _ _).trans (read_wideC _ _ _ _ _ hn _ (View.readAt_rep_full _ _ _))))
        isplitl [H4]
        · iexists _; isplitr; swap; · iexact H4
          ipureintro
          sl_open_run
          exact (read_wideA _ _ _ _ _ _ _ hn (View.readAt_rep_full _ _ _) _ (View.readAt_rep_full _ _ _))
        · iexists _; isplitr; swap; · iexact H5
          ipureintro
          sl_open_run
          exact (read_wideC _ _ _ _ _ hn _ (View.readAt_rep_full _ _ _))
    · rw [if_neg h4]
      by_cases hn : k0_cond2 (lo x0) (hi x0) = 1#1
      · have hw := mt (condWide_iff (lo x0) (hi x0)).mp (not_not.mpr hn)
        iintro ⟨H1, H2, H3, H4, H5, Hk⟩
        sl_exec (disch := first | (guard_target = k0_chk1 _; exact hk1) | (guard_target = k0_chk2 _ _; exact hk2) | (guard_target = k0_cond2 _ _ = _; exact hn) | (guard_target = ¬ k0_cond2 _ _ = _; exact hn) | (guard_target = k0_cond4 _ = _; exact h4) | (guard_target = ¬ k0_cond4 _ = _; exact h4) | exact hw)
        sl_step
        iapply Hk
        unfold owns
        isplitl [H1]
        · iexact H1
        isplitl [H2]
        · iexact H2
        isplitl [H3]
        · iexists _; isplitr; swap; · iexact H3
          ipureintro
          exact View.read_rep _ _
        isplitl [H4]
        · iexists _; isplitr; swap; · iexact H4
          ipureintro
          sl_open_run
          exact (read_narrowA _ _ [] _ _ _ _ hk2 hn (View.read_rep _ _) (View.readAt_rep_full _ _ _) _ (View.readAt_rep_unit _ _ _ rfl _))
        · iexists _; isplitr; swap; · iexact H5
          ipureintro
          sl_open_run
          exact (read_narrowC _ _ [] _ _ hk2 hn (View.read_rep _ _) _ (View.readAt_rep_unit _ _ _ rfl _))
      · have hw := (condWide_iff (lo x0) (hi x0)).mpr hn
        iintro ⟨H1, H2, H3, H4, H5, Hk⟩
        sl_exec (disch := first | (guard_target = k0_chk1 _; exact hk1) | (guard_target = k0_chk2 _ _; exact hk2) | (guard_target = k0_cond2 _ _ = _; exact hn) | (guard_target = ¬ k0_cond2 _ _ = _; exact hn) | (guard_target = k0_cond4 _ = _; exact h4) | (guard_target = ¬ k0_cond4 _ = _; exact h4) | exact hw)
        sl_step
        iapply Hk
        unfold owns
        isplitl [H1]
        · iexact H1
        isplitl [H2]
        · iexact H2
        isplitl [H3]
        · iexists _; isplitr; swap; · iexact H3
          ipureintro
          exact View.read_rep _ _
        isplitl [H4]
        · iexists _; isplitr; swap; · iexact H4
          ipureintro
          sl_open_run
          exact (read_wideA _ _ _ _ _ _ _ hn (View.readAt_rep_full _ _ _) _ (View.readAt_rep_full _ _ _))
        · iexists _; isplitr; swap; · iexact H5
          ipureintro
          sl_open_run
          exact (read_wideC _ _ _ _ _ hn _ (View.readAt_rep_full _ _ _))

end Cert.Pool
end
-- ==== Proof.Run.lean ====
module

public import proofs.«01_k».proof.Proof.Body

@[expose] public section

set_option maxRecDepth 16384

noncomputable section

namespace Cert.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of segment numbers of point `t`. -/
abbrev idxBlk (c : Dev nD) (t : Fin cfg0.N) : Vec F S1x1x16000 .i32 := iblk m c 0 t
/-- The block of rows of point `t`. -/
abbrev rowBlk (c : Dev nD) (t : Fin cfg0.N) : Vec F S16000x128 .f32 := iblk m c 1 t

/-- The sums and the counts after the first `n` points. -/
def sums (c : Dev nD) : ℕ → Vec F S512x128 .f32 × Vec F S512x1 .f32
  | 0 => (k0_pay8, k0_pay9)
  | n + 1 => if h : n < cfg0.N then
      (stepA (idxBlk m c ⟨n, h⟩) (rowBlk m c ⟨n, h⟩) (sums c n).1, stepC (idxBlk m c ⟨n, h⟩) (sums c n).2)
    else sums c n

theorem sums_succ (c : Dev nD) (t : Fin cfg0.N) :
    sums m c (t.val + 1) = (stepA (idxBlk m c t) (rowBlk m c t) (sums m c t.val).1, stepC (idxBlk m c t) (sums m c t.val).2) :=
  dif_pos t.isLt

/-- Between points: the scratch holds the sums and counts of the points done; before the first it holds anything. -/
def Φc (c : Dev nD) (t : Fin (cfg0.N + 1)) : sProp 𝕄 :=
  iprop(∃ (A : Vec F S512x128 .f32) (C : Vec F S512x1 .f32), ⌜t.val ≠ 0 → A = (sums m c t.val).1 ∧ C = (sums m c t.val).2⌝
    ∗ owns (c : Thread nD τ) (Memref.whole cc0_scratch0) fullShare A ∗ owns (c : Thread nD τ) (Memref.whole cc0_scratch1) fullShare C
    ∗ ∃ r, prngReg c r)

/-- What the pipeline needs of the kernel on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay7 (sums m c (t.val + 1)).1 (sums m c (t.val + 1)).2
  Φ t := Φc m c t
  q _ := fullShare
  owed _ := 0

theorem A_eq (c : Dev nD) (w : Fin cfg0.W) : (dats m 0 c).A w = V m c (Pipeline.arrRef spec0 w) := by
  dsimp only [dats]

abbrev 𝒱₀ : Variants := Variants.none

theorem first_iff : ∀ t : Fin cfg0.N, condFirst (grid0.coords t) ↔ t.val = 0 :=
  (by decide +kernel : ∀ t : Fin grid0.N, condFirst (grid0.coords t) ↔ t.val = 0)
theorem last_iff : ∀ t : Fin cfg0.N, k0_cond4 (grid0.coords t) = 1#1 ↔ t.val % 25 = 24 :=
  (by decide +kernel : ∀ t : Fin grid0.N, k0_cond4 (grid0.coords t) = 1#1 ↔ t.val % 25 = 24)

theorem not_both (t : Fin cfg0.N) : condFirst (grid0.coords t) → ¬ k0_cond4 (grid0.coords t) = 1#1 := fun h h' => by
  have := (first_iff t).mp h
  have := (last_iff t).mp h'
  omega

/-- The output block is touched at the last point only. -/
theorem idle_iff : ∀ t : Fin cfg0.N, cfg0.idle 2 (cfg0.grid.coords t) = true ↔ ¬ t.val % 25 = 24 :=
  (by decide +kernel : ∀ t : Fin grid0.N, idle0 2 (grid0.coords t) = true ↔ ¬ t.val % 25 = 24)

/-- What point `t` starts its update from. -/
theorem start_eq (c : Dev nD) (t : Fin cfg0.N) (A : Vec F S512x128 .f32) (C : Vec F S512x1 .f32)
    (h : t.val ≠ 0 → A = (sums m c t.val).1 ∧ C = (sums m c t.val).2) :
    startA (grid0.coords t) A = (sums m c t.val).1 ∧ startC (grid0.coords t) C = (sums m c t.val).2 := by
  unfold startA startC
  by_cases h0 : t.val = 0
  · rw [if_pos ((first_iff t).mpr h0), if_pos ((first_iff t).mpr h0), h0]
    exact ⟨rfl, rfl⟩
  · rw [if_neg (fun h => h0 ((first_iff t).mp h)), if_neg (fun h => h0 ((first_iff t).mp h))]
    exact h h0

/-- The side conditions of the block's word arithmetic, at every point. -/
def Checked (c : Dev nD) : Prop := ∀ t, k0_chk1 (lo (idxBlk m c t)) ∧ k0_chk2 (lo (idxBlk m c t)) (hi (idxBlk m c t))

theorem body_obligation (c : Dev nD) (hk : Checked m c) :
    BodyObligation (dats m 0 c) (defs₀ (F := F)) 𝒱₀ () Set.univ := fun t => by
  rw [bigSep_W0, bigSep_W0]
  rw [show (dats m 0 c).Φ t.castSucc = Φc m c t.castSucc from rfl, show (dats m 0 c).Φ t.succ = Φc m c t.succ from rfl]
  unfold Dat.owesAt Pipeline.owesWithin
  rw [show (dats m 0 c).owed t.castSucc = 0 from rfl, show (dats m 0 c).owed t.succ = 0 from rfl]
  unfold Φc
  iintro ⟨⟨%A, %C, %hAC, HA, HC, Hr⟩, ⟨%W, %hW, HO⟩, ⟨%d0, H0⟩, ⟨%d1, H1⟩, ⟨%d2, H2⟩⟩
  rw [before0_0_of m (dats m 0 c) (A_eq m c 0) (fun _ => rfl), before0_1_of m (dats m 0 c) (A_eq m c 1) (fun _ => rfl)]
  iapply (body_run c Set.univ (grid0.coords t) _ _ _ _ _ _ _ _ _ _ (idxBlk m c t) (rowBlk m c t) _ A C (hk t).1 (hk t).2 (not_both t) _)
  isplitl [H0]; · iexact H0
  isplitl [H1]; · iexact H1
  isplitl [H2]; · iexact H2
  isplitl [HA]; · iexact HA
  isplitl [HC]; · iexact HC
  iintro ⟨H0, H1, H2, HA, HC⟩
  obtain ⟨eA, eC⟩ := start_eq m c t A C hAC
  have eS1 : stepA (idxBlk m c t) (rowBlk m c t) (sums m c t.val).1 = (sums m c (t.val + 1)).1 := by rw [sums_succ]
  have eS2 : stepC (idxBlk m c t) (sums m c t.val).2 = (sums m c (t.val + 1)).2 := by rw [sums_succ]
  rw [eA, eC, eS1, eS2]
  isplitl [HA HC Hr]
  · iexists (sums m c (t.val + 1)).1; iexists (sums m c (t.val + 1)).2
    isplitr; swap
    · isplitl [HA]; · iexact HA
      isplitl [HC]; · iexact HC
      iexact Hr
    ipureintro
    intro _
    rw [Fin.val_succ]
    exact ⟨rfl, rfl⟩
  isplitl [HO]
  · iexists W; isplitr; · ipureintro; exact hW
    iexact HO
  isplitl [H0]; · iexact H0
  isplitl [H1]; · iexact H1
  by_cases hl : t.val % 25 = 24
  · have iW : cfg0.idle 2 (cfg0.grid.coords t) = false := by
      cases h : cfg0.idle 2 (cfg0.grid.coords t)
      · rfl
      · exact absurd hl ((idle_iff t).mp h)
    rewrite [iW]
    rw [if_pos ((last_iff t).mpr hl)]
    rw [show (dats m 0 c).after 2 t = k0_pay7 (sums m c (t.val + 1)).1 (sums m c (t.val + 1)).2 from rfl]
    iexact H2
  · have iW : cfg0.idle 2 (cfg0.grid.coords t) = true := (idle_iff t).mpr hl
    have iF : (cfg0.win 2).flush t = false := by
      cases h : (cfg0.win 2).flush t
      · rfl
      · exact absurd ((flush0_2 t).mp h) hl
    rewrite [iW]
    dsimp only
    rewrite [iF]
    rw [if_neg (fun h => hl ((last_iff t).mp h))]
    iexists d2
    iexact H2

/-- The kernel's run: it terminates, leaving every windowed array at what the pipeline computes, every other array as the region found it,
and every counter at zero. -/
theorem run_main (hk : ∀ c, Checked m c) :
    θ_run defs (onTc (τ := τ) (main (F := F))) (s₀ m ρ) (fun r => Pipeline.FramePost cfgs (dats m) 0 (V m) r ∧ r.2.sem = fun _ => 0) :=
  Pipeline.θ_run_frame_track cfgs (dats m) 0 launch0 defs₀ 𝒱₀ m ρ main (fun c => (body_obligation m c (hk c)).loose)
    (fun c => (dats m 0 c).share_full fun _ => rfl) (fun _ _ => rfl) (V m) (Gen.hmain m 𝒱₀) (A_eq m)
    (fun c => by
      rw [show (dats m 0 c).Φ 0 = Φc m c 0 from rfl]
      unfold Pipeline.ΦA Φc
      rw [scopedRest0_eq]
      iintro ⟨⟨⟨%f, Hf⟩, ⟨%g, Hg⟩⟩, Hr⟩
      iexists f; iexists g
      rw [owns_whole, owns_whole]
      isplitr; · ipureintro; exact fun h => absurd rfl h
      isplitl [Hf]; · iexact Hf
      isplitl [Hg]; · iexact Hg
      iexact Hr)
    (fun c => by
      rw [show (dats m 0 c).Φ (Fin.last cfg0.N) = Φc m c (Fin.last cfg0.N) from rfl]
      unfold Pipeline.ΦA Φc
      rw [scopedRest0_eq]
      simp only [owns_whole]
      iintro ⟨%A, %C, -, HA, HC, Hr⟩
      isplitl [HA HC]
      · isplitl [HA]
        · iexists A; iexact HA
        · iexists C; iexact HC
      iexact Hr)
    (Q' := fun r => Pipeline.FramePost cfgs (dats m) 0 (V m) r ∧ r.2.sem = fun _ => 0) (hQ' := fun _ h => h)

end Cert.Pool
end
-- ==== Proof.Blocks.lean ====
module

public import proofs.«01_k».proof.Proof.Run
public import Idealize.ShloMosaic.Lib.Pipeline.ValueKit
public import Idealize.ShloMosaic.Lib.Claim

@[expose] public section

noncomputable section

namespace Cert.Pool

open Cert.KernelIdeal Cert.KernelIdeal.Gen
open Idealize.ShloMosaic Idealize.ShloMosaic.TcCoe

variable {F : FTy → Type} [FloatOps F]
variable (m : (ℓ : Loc nD τ sig) → Buf (Elt F) ℓ)

/-- The rows as launched. -/
abbrev rows (c : Dev nD) : Vec F S100000x4x128 .f32 := m ((c : Thread nD τ).loc main_arg0)
/-- The segment numbers as launched. -/
abbrev segs (c : Dev nD) : Vec F S100000 .i32 := m ((c : Thread nD τ).loc main_arg1)

theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 :=
  (by decide +kernel : ∀ t : Fin grid0.N, win0_1.index t 0 = t.val ∧ win0_1.index t 1 = 0)

theorem node_lt (t : Fin cfg0.N) (r : Fin 16000) : (16000 * t.val + r.val) / 4 < 100000 := by
  have h : t.val < 25 := lt_of_lt_of_eq t.isLt N_0
  have := r.isLt
  omega

/-- The node of row `r` of block `t`. -/
def node (t : Fin cfg0.N) (r : Fin 16000) : Fin 100000 := ⟨(16000 * t.val + r.val) / 4, node_lt t r⟩
/-- The sample of row `r` of a block. -/
def sample (r : Fin 16000) : Fin 4 := ⟨r.val % 4, Nat.mod_lt _ (by decide)⟩

theorem entry_rows (c : Dev nD) : (V m c main_v0 : Vec F S400000x128 .f32) = shapeCast S400000x128 (rows m c) shapeCasts_S100000x4x128_S400000x128 := by
  entry_read
  rfl

theorem entry_segs (c : Dev nD) : (V m c main_v3 : Vec F S25x1x16000 .i32)
    = shapeCast S25x1x16000 (shapeCast S400000 (broadcastInDim S100000x4 ![0] bcast_S100000_S100000x4_0 (segs m c)) shapeCasts_S100000x4_S400000) shapeCasts_S400000_S25x1x16000 := by
  entry_read
  rfl

/-- Row `r` of block `t` is its node's row of its sample. -/
theorem rowBlk_eq (c : Dev nD) (t : Fin cfg0.N) (r : Fin 16000) (d : Fin 128) :
    rowBlk m c t (ix2 r d) = rows m c (ix3 (node t r) (sample r) d) := by
  have ht : t.val < 25 := lt_of_lt_of_eq t.isLt N_0
  have h1 : rowBlk m c t (ix2 r d) = (V m c main_v0 : Vec F S400000x128 .f32) (ix2 ⟨16000 * t.val + r.val, by omega⟩ d) := by
    blk_ext [rowBlk, iblk, index1 t]
  rw [h1, entry_rows]
  unfold node sample
  pointwise
  refine congrArg (rows m c) (funext fun a => Fin.ext ?_)
  match a with
  | ⟨0, _⟩ => rfl
  | ⟨1, _⟩ => show (16000 * t.val + r.val) % 4 = r.val % 4; omega
  | ⟨2, _⟩ => rfl

/-- Element `r` of block `t` of the segment numbers is its node's. -/
theorem idxBlk_eq (c : Dev nD) (t : Fin cfg0.N) (r : Fin 16000) :
    idxBlk m c t (ix3 0 0 r) = segs m c (ix1 (node t r)) := by
  have ht : t.val < 25 := lt_of_lt_of_eq t.isLt N_0
  have h1 : idxBlk m c t (ix3 0 0 r) = (V m c main_v3 : Vec F S25x1x16000 .i32) (ix3 ⟨t.val, ht⟩ 0 r) := by
    blk_ext [idxBlk, iblk, index0 t]
  rw [h1, entry_segs]
  unfold node
  pointwise
  refine congrArg (segs m c) (funext fun a => Fin.ext ?_)
  match a with
  | ⟨0, _⟩ => show t.val * 4000 + r.val / 4 = (16000 * t.val + r.val) / 4; omega

end Cert.Pool
end
-- ==== Proof.Range.lean ====
module

public import proofs.«01_k».proof.Proof.Blocks
public import proofs.«01_k».proof.Defs
public import Idealize.ShloMosaic.Lib.ReduceAll
public import Idealize.ShloMosaic.Lib.Affine
public import Idealize.ShloMosaic.Lib.Pointwise

@[expose] public section

noncomputable section

namespace Cert.Pool

open Cert.KernelIdeal Cert.KernelIdeal.Gen
open Idealize.ShloMosaic Idealize.ShloMosaic.TcCoe

variable {F : FTy → Type} [FloatOps F]

/-- The least segment number of a block is the signed minimum of its words. -/
theorem lo_eq (x0 : Vec F S1x1x16000 .i32) :
    lo x0 = Finset.univ.fold IKind.minsi.op 2147483647#32 fun r : Fin 16000 => x0 (ix3 0 0 r) := by
  unfold lo k0_pay12 k0_pay11
  dsimp only [extractAt]
  pointwise

/-- The greatest segment number of a block is the signed maximum of its words. -/
theorem hi_eq (x0 : Vec F S1x1x16000 .i32) :
    hi x0 = Finset.univ.fold IKind.maxsi.op 2147483648#32 fun r : Fin 16000 => x0 (ix3 0 0 r) := by
  unfold hi k0_pay13 k0_pay11
  dsimp only [extractAt]
  pointwise

variable (x0 : Vec F S1x1x16000 .i32)

theorem lo_le (r : Fin 16000) : (lo x0).toInt ≤ (x0 (ix3 0 0 r)).toInt := by
  rw [lo_eq]
  exact fold_minsi_le (fun r : Fin 16000 => x0 (ix3 0 0 r)) _ _ r (Finset.mem_univ r)

theorem le_hi (r : Fin 16000) : (x0 (ix3 0 0 r)).toInt ≤ (hi x0).toInt := by
  rw [hi_eq]
  exact le_fold_maxsi (fun r : Fin 16000 => x0 (ix3 0 0 r)) _ _ r (Finset.mem_univ r)

theorem lo_nonneg (h : ∀ r, 0 ≤ (x0 (ix3 0 0 r)).toInt) : 0 ≤ (lo x0).toInt := by
  rw [lo_eq]
  exact fold_minsi_nonneg _ _ _ (by decide) fun r _ => h r

/-- A block of nonnegative segment numbers meets the side conditions of the block's word arithmetic. -/
theorem checks (h : ∀ r, 0 ≤ (x0 (ix3 0 0 r)).toInt) : k0_chk1 (lo x0) ∧ k0_chk2 (lo x0) (hi x0) :=
  ⟨chk1 _ (toNat_lt_of_nonneg _ (lo_nonneg x0 h)), chk2 _ _ (toNat_lt_of_nonneg _ (lo_nonneg x0 h))⟩

/-- The claims' precondition: every segment number is nonnegative as a signed word. -/
theorem nonneg_of_pre [Cert.Pre_in_range.Facts] (a0 : FVec F S100000x4x128 .f32) (a1 : IVec S100000 32)
    (h : Cert.Pre_in_range.fn a0 a1 = fun _ => 1#1) (i : S100000.Idx) : 0 ≤ (a1 i).toInt := by
  have h1 := Host.reduce_andi_all _ _ _ _ _ (congrFun h ix0) i
  have h2 : IntOp.cmpi .sge (a1 i) 0#32 = 1#1 := h1
  have key : ∀ x : BitVec 32, IntOp.cmpi .sge x 0#32 = 1#1 → 0 ≤ x.toInt := fun x hx => by
    by_contra hn
    have : (0#32).sle x = false := by simpa [BitVec.sle] using hn
    simp [IntOp.cmpi, this] at hx
  exact key _ h2

variable (m : (ℓ : Loc nD τ sig) → Buf (Elt F) ℓ)

theorem checked (c : Dev nD) (h : ∀ i, 0 ≤ (segs m c i).toInt) : Checked m c := fun t =>
  checks (idxBlk m c t) fun r => by rw [idxBlk_eq]; exact h _

end Cert.Pool
end
-- ==== Proof.Final.lean ====
module

public import proofs.«01_k».proof.Proof.Run
public import Idealize.ShloMosaic.Lib.Pipeline.ValueKit.Geometry

@[expose] public section

set_option maxRecDepth 16384

noncomputable section

namespace Cert.Pool

open Cert.KernelIdeal Cert.KernelIdeal.Gen
open Idealize.ShloMosaic Idealize.ShloMosaic.TcCoe

variable {F : FTy → Type} [FloatOps F]
variable (m : (ℓ : Loc nD τ sig) → Buf (Elt F) ℓ)

/-- The last grid point, the only one after which the result is written back. -/
def tLast : Fin cfg0.N := ⟨24, by decide⟩

/-- After the whole grid the result array holds the final division of the accumulated sums by the accumulated
    counts, both taken after all 25 blocks. -/
theorem final (c : Dev nD) :
    (dats m 0 c).arrAt 2 cfg0.N = k0_pay7 (sums m c 25).1 (sums m c 25).2 := by
  refine (dats m 0 c).arrAt_eq_of_after_last 2 tLast (by decide +kernel) _ fun j => ?_
  blk_simp
  exact congrFun (show (dats m 0 c).after 2 tLast = k0_pay7 (sums m c (tLast.val + 1)).1 (sums m c (tLast.val + 1)).2 from rfl) j

end Cert.Pool
end
-- ==== Proof.Reference.lean ====
module

public import proofs.«01_k».proof.Defs
public import proofs.«01_k».proof.Proof.Gen.ReferenceIdeal
public import Idealize.ShloMosaic.Lib.StableHlo.Run

@[expose] public section

noncomputable section

namespace Cert.Pool.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's operations, in order. -/
abbrev ops : List (HloOp τ sig (Elt F)) :=
  [ nullary main_cst (constant S_ .f32 0x00000000#32),
    binary main_arg0 main_cst main_v0 ((fun x v => Host.reduceAdd x v reducesTo_S100000x4x128_S100000x128_d1 h_S_) : (⟨S100000x4x128, .f32⟩ : BufTy).Contents (Elt F) → (⟨S_, .f32⟩ : BufTy).Contents (Elt F) → (⟨S100000x128, .f32⟩ : BufTy).Contents (Elt F)),
    nullary main_cst_0 (constant S_ .f32 0x40800000#32),
    unary main_cst_0 main_v1 (broadcastInDim S100000x128 ![] bcast_S_S100000x128 : (⟨S_, .f32⟩ : BufTy).Contents (Elt F) → (⟨S100000x128, .f32⟩ : BufTy).Contents (Elt F)),
    binary main_v0 main_v1 main_v2 (Host.divf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    unary main_cst_1 main_v3 (broadcastInDim S512x128 ![] bcast_S_S512x128 : (⟨S_, .f32⟩ : BufTy).Contents (Elt F) → (⟨S512x128, .f32⟩ : BufTy).Contents (Elt F)),
    unary main_arg1 main_v4 (broadcastInDim S100000x1 ![0] bcast_S100000_S100000x1_0 : (⟨S100000, .i32⟩ : BufTy).Contents (Elt F) → (⟨S100000x1, .i32⟩ : BufTy).Contents (Elt F)),
    ternary main_v3 main_v4 main_v2 main_v5 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_2 (constant S_ .f32 0x3F800000#32),
    unary main_cst_2 main_v6 (broadcastInDim S100000 ![] bcast_S_S100000 : (⟨S_, .f32⟩ : BufTy).Contents (Elt F) → (⟨S100000, .f32⟩ : BufTy).Contents (Elt F)),
    nullary main_cst_3 (constant S_ .f32 0x00000000#32),
    unary main_cst_3 main_v7 (broadcastInDim S512 ![] bcast_S_S512 : (⟨S_, .f32⟩ : BufTy).Contents (Elt F) → (⟨S512, .f32⟩ : BufTy).Contents (Elt F)),
    unary main_arg1 main_v8 (broadcastInDim S100000x1 ![0] bcast_S100000_S100000x1_0 : (⟨S100000, .i32⟩ : BufTy).Contents (Elt F) → (⟨S100000x1, .i32⟩ : BufTy).Contents (Elt F)),
    ternary main_v7 main_v8 main_v6 main_v9 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_4 (constant S_ .f32 0x3F800000#32),
    unary main_cst_4 main_v10 (broadcastInDim S512 ![] bcast_S_S512 : (⟨S_, .f32⟩ : BufTy).Contents (Elt F) → (⟨S512, .f32⟩ : BufTy).Contents (Elt F)),
    binary main_v9 main_v10 main_v11 (maximumf : (⟨S512, .f32⟩ : BufTy).Contents (Elt F) → (⟨S512, .f32⟩ : BufTy).Contents (Elt F) → (⟨S512, .f32⟩ : BufTy).Contents (Elt F)),
    unary main_v11 main_v12 (broadcastInDim S512x1 ![0] bcast_S512_S512x1_0 : (⟨S512, .f32⟩ : BufTy).Contents (Elt F) → (⟨S512x1, .f32⟩ : BufTy).Contents (Elt F)),
    unary main_v12 main_v13 (broadcastInDim S512x128 ![0, 1] bcast_S512x1_S512x128_0_1 : (⟨S512x1, .f32⟩ : BufTy).Contents (Elt F) → (⟨S512x128, .f32⟩ : BufTy).Contents (Elt F)),
    binary main_v5 main_v13 main_v14 (Host.divf : (⟨S512x128, .f32⟩ : BufTy).Contents (Elt F) → (⟨S512x128, .f32⟩ : BufTy).Contents (Elt F) → (⟨S512x128, .f32⟩ : BufTy).Contents (Elt F)) ]

theorem main_eq (c : Dev nD) : main (F := F) c = seq ops := by
  simp only [main, seq]

/-- Each node's mean over its samples. -/
def means (x : Vec F S100000x4x128 .f32) : Vec F S100000x128 .f32 :=
  Host.divf (Host.reduceAdd x (constant S_ .f32 0x00000000#32) reducesTo_S100000x4x128_S100000x128_d1 h_S_)
    (broadcastInDim S100000x128 ![] bcast_S_S100000x128 (constant S_ .f32 0x40800000#32))

/-- The sums of the means, by segment. -/
def meanSums (x : Vec F S100000x4x128 .f32) (b : Vec F S100000 .i32) : Vec F S512x128 .f32 :=
  Host.scatterAdd scatter_S512x128_S100000x1_S100000x128_1_0_0_1
    (broadcastInDim S512x128 ![] bcast_S_S512x128 (constant S_ .f32 0x00000000#32))
    (broadcastInDim S100000x1 ![0] bcast_S100000_S100000x1_0 b) (means x)

/-- The sizes of the segments. -/
def sizes (b : Vec F S100000 .i32) : Vec F S512 .f32 :=
  Host.scatterAdd scatter_S512_S100000x1_S100000_n_0_0_1
    (broadcastInDim S512 ![] bcast_S_S512 (constant S_ .f32 0x00000000#32))
    (broadcastInDim S100000x1 ![0] bcast_S100000_S100000x1_0 b)
    (broadcastInDim S100000 ![] bcast_S_S100000 (constant S_ .f32 0x3F800000#32))

/-- What the reference returns. -/
def out (x : Vec F S100000x4x128 .f32) (b : Vec F S100000 .i32) : Vec F S512x128 .f32 :=
  Host.divf (meanSums x b)
    (broadcastInDim S512x128 ![0, 1] bcast_S512x1_S512x128_0_1
      (broadcastInDim S512x1 ![0] bcast_S512_S512x1_0
        (maximumf (sizes b) (broadcastInDim S512 ![] bcast_S_S512 (constant S_ .f32 0x3F800000#32)))))

theorem out_eq (V : Valuation τ sig (Elt F)) :
    after ops V (main_v14 : DevRef τ sig) = out (V (main_arg0 : DevRef τ sig)) (V (main_arg1 : DevRef τ sig)) := by
  unfold out meanSums sizes means
  after_results

theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

/-- The reference runs, and every buffer ends at what its operations, in order, leave there. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Pool.Ref
end
-- ==== Proof.Step.lean ====
module

public import proofs.«01_k».proof.Proof.Range
public import Idealize.ShloMosaic.PureOps.Ideal

@[expose] public section

set_option maxRecDepth 16384

noncomputable section

namespace Cert.Pool

open Cert.KernelIdeal Cert.KernelIdeal.Gen
open Idealize.ShloMosaic Idealize.ShloMosaic.TcCoe

/-- One when the word `w` is segment `g`, zero otherwise. -/
def hot (g : ℕ) (w : BitVec 32) : EReal := if BitVec.ofNat 32 g = w then 1 else 0

/-- A comparison for equality, widened and read as a number, is one or zero. -/
theorem sitofp_eq (a b : BitVec 32) :
    FloatOps.sitofp (F := Ideal) FTy.f32 (BitVec.setWidth 32 (IntOp.cmpi CmpIPredicate.eq a b)) = if a = b then (1 : EReal) else 0 := by
  have e : IntOp.cmpi CmpIPredicate.eq a b = if a = b then 1#1 else 0#1 := by
    by_cases h : a = b
    · simp [IntOp.cmpi, h]
    · rw [if_neg h]
      show BitVec.ofBool (a == b) = 0#1
      rw [beq_eq_false_iff_ne.mpr h]
      rfl
  rw [e]
  by_cases h : a = b
  · rw [if_pos h, if_pos h]
    show (((((1#1).setWidth 32 : BitVec 32).toInt : ℝ)) : EReal) = 1
    norm_num
  · rw [if_neg h, if_neg h]
    show (((((0#1).setWidth 32 : BitVec 32).toInt : ℝ)) : EReal) = 0
    norm_num

/-- The word of row `g` counted from the word `v`. -/
theorem addi_ofNat (v : BitVec 32) (g : ℕ) : IntOp.addi v (BitVec.ofNat 32 g) = BitVec.ofNat 32 (v.toNat + g) := by
  rw [BitVec.ofNat_add, BitVec.ofNat_toNat, BitVec.setWidth_eq]
  rfl

theorem wideA_apply (x0 : Vec Ideal S1x1x16000 .i32) (x1 : Vec Ideal S16000x128 .f32) (A : Vec Ideal S512x128 .f32) (g : Fin 512) (d : Fin 128) :
    k0_pay5 (k0_pay10 x1) (k0_pay11 x0) A (ix2 g d) = A (ix2 g d) + ∑ r : Fin 16000, hot g (x0 (ix3 0 0 r)) * x1 (ix2 r d) := by
  pointwise [k0_pay5, k0_pay4, k0_pay10, k0_pay11]
  simp only [sitofp_eq, addi_ofNat, hot]
  rw [show (0#32).toNat = 0 from rfl, Nat.zero_add]

theorem wideC_apply (x0 : Vec Ideal S1x1x16000 .i32) (C : Vec Ideal S512x1 .f32) (g : Fin 512) :
    k0_pay6 (k0_pay11 x0) C (ix2 g 0) = C (ix2 g 0) + ∑ r : Fin 16000, hot g (x0 (ix3 0 0 r)) := by
  pointwise [k0_pay6, k0_pay4, k0_pay11]
  simp only [sitofp_eq, addi_ofNat, hot]
  rw [show (0#32).toNat = 0 from rfl, Nat.zero_add]

theorem narrowA_apply (x0 : Vec Ideal S1x1x16000 .i32) (x1 : Vec Ideal S16000x128 .f32) (v : BitVec 32) (A : Vec Ideal S64x128 .f32) (g : Fin 64)
    (d : Fin 128) :
    k0_pay2 (k0_pay10 x1) (k0_pay11 x0) v A (ix2 g d)
      = A (ix2 g d) + ∑ r : Fin 16000, hot (v.toNat + g) (x0 (ix3 0 0 r)) * x1 (ix2 r d) := by
  pointwise [k0_pay2, k0_pay1, k0_pay10, k0_pay11]
  simp only [sitofp_eq, addi_ofNat, hot]

theorem narrowC_apply (x0 : Vec Ideal S1x1x16000 .i32) (v : BitVec 32) (C : Vec Ideal S64x1 .f32) (g : Fin 64) :
    k0_pay3 (k0_pay11 x0) v C (ix2 g 0) = C (ix2 g 0) + ∑ r : Fin 16000, hot (v.toNat + g) (x0 (ix3 0 0 r)) := by
  pointwise [k0_pay3, k0_pay1, k0_pay11]
  simp only [sitofp_eq, addi_ofNat, hot]

section

variable (x0 : Vec Ideal S1x1x16000 .i32) (h : ∀ r, 0 ≤ (x0 (ix3 0 0 r)).toInt)

include h

/-- When the block's segments fit the window, no row of the block belongs to a segment outside it. -/
theorem hot_outside (hn : k0_cond2 (lo x0) (hi x0) = 1#1) (g : Fin 512)
    (hg : ¬ ((k0_mult1 (lo x0)).toNat ≤ g.val ∧ g.val < (k0_mult1 (lo x0)).toNat + 64)) (r : Fin 16000) : hot g (x0 (ix3 0 0 r)) = 0 := by
  have h1 := lo_le x0 r
  have h2 := le_hi x0 r
  have h0 := lo_nonneg x0 h
  have hl := toNat_lt_of_nonneg _ h0
  have hh := toNat_lt_of_nonneg (hi x0) (le_trans (h r) h2)
  have hw := toNat_lt_of_nonneg _ (h r)
  rw [toInt_of_lt _ hl, toInt_of_lt _ hw] at h1
  rw [toInt_of_lt _ hh, toInt_of_lt _ hw] at h2
  have hb := toNat_base (lo x0) hl
  have hc := (cond2_iff (lo x0) (hi x0) hl hh).mp hn
  refine if_neg fun e => hg ?_
  have e' : g.val = (x0 (ix3 0 0 r)).toNat := by
    rw [← e, BitVec.toNat_ofNat, Nat.mod_eq_of_lt]
    have := g.isLt
    omega
  omega

/-- The sums after one block: to each segment's sum the block's rows of that segment are added. -/
theorem stepA_apply (x1 : Vec Ideal S16000x128 .f32) (A : Vec Ideal S512x128 .f32) (g : Fin 512) (d : Fin 128) :
    stepA x0 x1 A (ix2 g d) = A (ix2 g d) + ∑ r : Fin 16000, hot g (x0 (ix3 0 0 r)) * x1 (ix2 r d) := by
  unfold stepA
  split
  · next hk =>
    by_cases hg : (k0_mult1 (lo x0)).toNat ≤ g.val ∧ g.val < (k0_mult1 (lo x0)).toNat + 64
    · have hin : ∀ a, k0_off1 (lo x0) a ≤ ((ix2 g d : S512x128.Idx) a).val ∧ ((ix2 g d : S512x128.Idx) a).val < k0_off1 (lo x0) a + S64x128.size a := fun a => by
        match a with
        | ⟨0, _⟩ => exact hg
        | ⟨1, _⟩ => exact ⟨Nat.zero_le _, lt_of_lt_of_eq d.isLt (Nat.zero_add 128).symm⟩
      have hy : (Rect.unitLocal (s := S512x128) (off := k0_off1 (lo x0)) (size := S64x128.size) (ix2 g d) hin : S64x128.Idx)
          = ix2 (⟨g.val - (k0_mult1 (lo x0)).toNat, by omega⟩ : Fin 64) d := by
        funext a
        match a with
        | ⟨0, _⟩ => rfl
        | ⟨1, _⟩ => rfl
      refine (dif_pos hin).trans ?_
      rw [hy, narrowA_apply]
      have hs : (k0_mult1 (lo x0)).toNat + (g.val - (k0_mult1 (lo x0)).toNat) = g.val := by omega
      dsimp only
      rw [hs]
      refine congrArg₂ (· + ·) (congrArg A (funext fun a => Fin.ext ?_)) rfl
      match a with
      | ⟨0, _⟩ => show (k0_mult1 (lo x0)).toNat + 1 * (g.val - (k0_mult1 (lo x0)).toNat) = g.val; omega
      | ⟨1, _⟩ => show 0 + 1 * d.val = d.val; omega
    · refine (dif_neg fun hin => hg (hin 0)).trans ?_
      rw [Finset.sum_eq_zero fun r _ => by rw [hot_outside x0 h hk.2 g hg r, zero_mul], add_zero]
  · exact wideA_apply x0 x1 A g d

/-- The counts after one block: to each segment's count the number of the block's rows of that segment is added. -/
theorem stepC_apply (C : Vec Ideal S512x1 .f32) (g : Fin 512) :
    stepC x0 C (ix2 g 0) = C (ix2 g 0) + ∑ r : Fin 16000, hot g (x0 (ix3 0 0 r)) := by
  unfold stepC
  split
  · next hk =>
    by_cases hg : (k0_mult1 (lo x0)).toNat ≤ g.val ∧ g.val < (k0_mult1 (lo x0)).toNat + 64
    · have hin : ∀ a, k0_off2 (lo x0) a ≤ ((ix2 g 0 : S512x1.Idx) a).val ∧ ((ix2 g 0 : S512x1.Idx) a).val < k0_off2 (lo x0) a + S64x1.size a := fun a => by
        match a with
        | ⟨0, _⟩ => exact hg
        | ⟨1, _⟩ => exact ⟨Nat.zero_le _, Nat.one_pos⟩
      have hy : (Rect.unitLocal (s := S512x1) (off := k0_off2 (lo x0)) (size := S64x1.size) (ix2 g 0) hin : S64x1.Idx)
          = ix2 (⟨g.val - (k0_mult1 (lo x0)).toNat, by omega⟩ : Fin 64) 0 := by
        funext a
        match a with
        | ⟨0, _⟩ => rfl
        | ⟨1, _⟩ => rfl
      refine (dif_pos hin).trans ?_
      rw [hy, narrowC_apply]
      have hs : (k0_mult1 (lo x0)).toNat + (g.val - (k0_mult1 (lo x0)).toNat) = g.val := by omega
      dsimp only
      rw [hs]
      refine congrArg₂ (· + ·) (congrArg C (funext fun a => Fin.ext ?_)) rfl
      match a with
      | ⟨0, _⟩ => show (k0_mult1 (lo x0)).toNat + 1 * (g.val - (k0_mult1 (lo x0)).toNat) = g.val; omega
      | ⟨1, _⟩ => rfl
    · refine (dif_neg fun hin => hg (hin 0)).trans ?_
      rw [Finset.sum_eq_zero fun r _ => hot_outside x0 h hk.2 g hg r, add_zero]
  · exact wideC_apply x0 C g

end

end Cert.Pool
end
-- ==== Proof.Sums.lean ====
module

public import proofs.«01_k».proof.Proof.Step

@[expose] public section

set_option maxRecDepth 16384

noncomputable section

namespace Cert.Pool

open Cert.KernelIdeal Cert.KernelIdeal.Gen
open Idealize.ShloMosaic Idealize.ShloMosaic.TcCoe

/-- A sum over `K * N` numbers is the sum of its `N` runs of length `K`. -/
theorem sum_runs (f : ℕ → EReal) (K N : ℕ) :
    ∑ q ∈ Finset.range (K * N), f q = ∑ n ∈ Finset.range N, ∑ s ∈ Finset.range K, f (K * n + s) := by
  induction N with
  | zero => rfl
  | succ N ih => rw [Nat.mul_succ, Finset.sum_range_add, ih, Finset.sum_range_succ]

section

variable (x : Vec Ideal S100000x4x128 .f32) (b : Vec Ideal S100000 .i32)

/-- The segment number of node `n`, at any number. -/
def segAt (n : ℕ) : BitVec 32 := if h : n < 100000 then b (ix1 ⟨n, h⟩) else 0#32

/-- Component `d` of sample `s` of node `n`, at any numbers. -/
def rowAt (d : Fin 128) (n s : ℕ) : EReal := if h : n < 100000 ∧ s < 4 then x (ix3 ⟨n, h.1⟩ ⟨s, h.2⟩ d) else 0

/-- The sum of component `d` over every sample of every node of segment `g`. -/
def segSum (g : ℕ) (d : Fin 128) : EReal := ∑ n : Fin 100000, hot g (b (ix1 n)) * ∑ s : Fin 4, x (ix3 n s d)

/-- The number of nodes of segment `g`. -/
def segCount (g : ℕ) : EReal := ∑ n : Fin 100000, hot g (b (ix1 n))

theorem hot_mul_sum (g : ℕ) (w : BitVec 32) {K : ℕ} (f : Fin K → EReal) : ∑ s, hot g w * f s = hot g w * ∑ s, f s := by
  unfold hot
  by_cases h : BitVec.ofNat 32 g = w
  · simp only [if_pos h, one_mul]
  · simp only [if_neg h, zero_mul, Finset.sum_const_zero]

/-- Row by row, four rows to a node, the sum of a segment. -/
theorem segSum_rows (g : ℕ) (d : Fin 128) :
    ∑ q ∈ Finset.range (16000 * 25), hot g (segAt b (q / 4)) * rowAt x d (q / 4) (q % 4) = segSum x b g d := by
  rw [show 16000 * 25 = 4 * 100000 from rfl, sum_runs, Finset.sum_range]
  refine Finset.sum_congr rfl fun n _ => ?_
  rw [Finset.sum_range, ← hot_mul_sum]
  refine Finset.sum_congr rfl fun s _ => ?_
  have hq : (4 * n.val + s.val) / 4 = n.val := by omega
  have hr : (4 * n.val + s.val) % 4 = s.val := by omega
  rw [hq, hr, segAt, rowAt, dif_pos n.isLt, dif_pos ⟨n.isLt, s.isLt⟩]

/-- Row by row, four rows to a node, four times the number of nodes of a segment. -/
theorem segCount_rows (g : ℕ) : ∑ q ∈ Finset.range (16000 * 25), hot g (segAt b (q / 4)) = ∑ n : Fin 100000, 4 • hot g (b (ix1 n)) := by
  rw [show 16000 * 25 = 4 * 100000 from rfl, sum_runs, Finset.sum_range]
  refine Finset.sum_congr rfl fun n _ => ?_
  rw [← Finset.card_range 4, ← Finset.sum_const, Finset.card_range]
  refine Finset.sum_congr rfl fun s hs => ?_
  have := Finset.mem_range.mp hs
  have hq : (4 * n.val + s) / 4 = n.val := by omega
  rw [hq, segAt, dif_pos n.isLt]

end

variable (m : (ℓ : Loc nD τ sig) → Buf (Elt Ideal) ℓ) (c : Dev nD) (h : ∀ i, 0 ≤ (segs m c i).toInt)

theorem node_segAt (t : Fin cfg0.N) (r : Fin 16000) : segs m c (ix1 (node t r)) = segAt (segs m c) ((16000 * t.val + r.val) / 4) :=
  (by rw [segAt, dif_pos (node_lt t r)]; rfl)

theorem node_rowAt (t : Fin cfg0.N) (r : Fin 16000) (d : Fin 128) :
    rows m c (ix3 (node t r) (sample r) d) = rowAt (rows m c) d ((16000 * t.val + r.val) / 4) ((16000 * t.val + r.val) % 4) := by
  have hs : (16000 * t.val + r.val) % 4 = r.val % 4 := by omega
  rw [rowAt, dif_pos ⟨node_lt t r, Nat.mod_lt _ (by decide)⟩]
  exact congrArg (fun s => rows m c (ix3 (node t r) s d)) (Fin.ext hs.symm)

include h

/-- After `n` blocks the scratch holds the sums and the counts of the first `16000 * n` rows. -/
theorem sums_apply (n : ℕ) (hn : n ≤ 25) (g : Fin 512) (d : Fin 128) :
    (sums m c n).1 (ix2 g d)
        = ∑ q ∈ Finset.range (16000 * n), hot g (segAt (segs m c) (q / 4)) * rowAt (rows m c) d (q / 4) (q % 4)
      ∧ (sums m c n).2 (ix2 g 0) = ∑ q ∈ Finset.range (16000 * n), hot g (segAt (segs m c) (q / 4)) := by
  induction n with
  | zero =>
    constructor
    · show k0_pay8 (F := Ideal) (ix2 g d) = 0
      pointwise [k0_pay8]
    · show k0_pay9 (F := Ideal) (ix2 g 0) = 0
      pointwise [k0_pay9]
  | succ n ih =>
    obtain ⟨ihA, ihC⟩ := ih (by omega)
    have ht : n < cfg0.N := lt_of_lt_of_eq (by omega) N_0.symm
    have hx : ∀ r, 0 ≤ (idxBlk m c ⟨n, ht⟩ (ix3 0 0 r)).toInt := fun r => by rw [idxBlk_eq]; exact h _
    rw [sums_succ m c ⟨n, ht⟩]
    rw [Nat.mul_succ, Finset.sum_range_add, Finset.sum_range_add]
    constructor
    · dsimp only
      rw [stepA_apply _ hx, ihA]
      refine congrArg₂ (· + ·) rfl ?_
      rw [Finset.sum_range]
      refine Finset.sum_congr rfl fun r _ => ?_
      rw [idxBlk_eq, rowBlk_eq, node_segAt, node_rowAt]
    · dsimp only
      rw [stepC_apply _ hx, ihC]
      refine congrArg₂ (· + ·) rfl ?_
      rw [Finset.sum_range]
      refine Finset.sum_congr rfl fun r _ => ?_
      rw [idxBlk_eq, node_segAt]

theorem sums_last (g : Fin 512) (d : Fin 128) :
    (sums m c 25).1 (ix2 g d) = segSum (rows m c) (segs m c) g d
      ∧ (sums m c 25).2 (ix2 g 0) = ∑ n : Fin 100000, 4 • hot g (segs m c (ix1 n)) := by
  rw [← segSum_rows, ← segCount_rows]
  exact sums_apply m c h 25 le_rfl g d

end Cert.Pool
end
-- ==== Proof.RefValue.lean ====
module

public import proofs.«01_k».proof.Proof.Reference
public import proofs.«01_k».proof.Proof.Sums
public import Idealize.ShloMosaic.Lib.Routing.OpsPair
public import Idealize.ShloMosaic.Lib.Pointwise
public import Idealize.ShloMosaic.Lib.IdealHost

@[expose] public section

set_option maxRecDepth 16384

noncomputable section

namespace Cert.Pool.Ref

open Cert.ReferenceIdeal Cert.ReferenceIdeal.Gen
open Idealize.ShloMosaic Idealize.ShloMosaic.TcCoe

/-- A word names segment `g` exactly when it reads, signed, as `g`. -/
theorem ofNat_eq_iff (g : Fin 512) (w : BitVec 32) : BitVec.ofNat 32 g.val = w ↔ w.toInt = (g.val : ℤ) := by
  have hg := g.isLt
  constructor
  · intro e
    have ht : w.toNat = g.val := by rw [← e, BitVec.toNat_ofNat, Nat.mod_eq_of_lt (by omega)]
    rw [toInt_of_lt w (by omega), ht]
  · intro e
    have hw := toNat_lt_of_nonneg w (by omega)
    rw [toInt_of_lt w hw] at e
    exact BitVec.eq_of_toNat_eq (by rw [BitVec.toNat_ofNat, Nat.mod_eq_of_lt (by omega)]; omega)

/-- Component `e` of node `n` lands at `(g, d)` when the node is of segment `g` and `e` is `d`. -/
theorem lands_sum (idx : IVec S100000x1 32) (n : Fin 100000) (e : Fin 128) (g : Fin 512) (d : Fin 128) :
    scatter_S512x128_S100000x1_S100000x128_1_0_0_1.resultIdx? (ix2 n e) idx = some (ix2 g d)
      ↔ BitVec.ofNat 32 g.val = idx (ix2 n 0) ∧ e = d := by
  rw [Routing.resultIdx?_eq_some, ofNat_eq_iff, Fin.ext_iff]
  have h0 : scatter_S512x128_S100000x1_S100000x128_1_0_0_1.start (ix2 n e) idx 0 = (idx (ix2 n 0)).toInt := by
    refine congrArg (fun i => (idx i).toInt) (funext fun a => ?_)
    match a with
    | ⟨0, _⟩ => rfl
    | ⟨1, _⟩ => rfl
  have h1 : scatter_S512x128_S100000x1_S100000x128_1_0_0_1.start (ix2 n e) idx 1 = 0 := rfl
  have w0 : scatter_S512x128_S100000x1_S100000x128_1_0_0_1.window (ix2 n e) 0 = 0 := rfl
  have w1 : scatter_S512x128_S100000x1_S100000x128_1_0_0_1.window (ix2 n e) 1 = e.val := rfl
  constructor
  · intro h
    have a0 := h 0
    have a1 := h 1
    rw [h0, w0] at a0
    rw [h1, w1] at a1
    change _ = (g.val : ℤ) at a0
    change _ = (d.val : ℤ) at a1
    omega
  · rintro ⟨a0, a1⟩ a
    match a with
    | ⟨0, _⟩ =>
      refine (congrArg₂ (· + ·) h0 (congrArg Nat.cast w0)).trans ?_
      show _ = (g.val : ℤ)
      omega
    | ⟨1, _⟩ =>
      refine (congrArg₂ (· + ·) h1 (congrArg Nat.cast w1)).trans ?_
      show _ = (d.val : ℤ)
      omega

/-- Node `n` lands at `g` when it is of segment `g`. -/
theorem lands_count (idx : IVec S100000x1 32) (n : Fin 100000) (g : Fin 512) :
    scatter_S512_S100000x1_S100000_n_0_0_1.resultIdx? (ix1 n) idx = some (ix1 g) ↔ BitVec.ofNat 32 g.val = idx (ix2 n 0) := by
  rw [Routing.resultIdx?_eq_some, ofNat_eq_iff]
  have h0 : scatter_S512_S100000x1_S100000_n_0_0_1.start (ix1 n) idx 0 = (idx (ix2 n 0)).toInt := by
    refine congrArg (fun i => (idx i).toInt) (funext fun a => ?_)
    match a with
    | ⟨0, _⟩ => rfl
    | ⟨1, _⟩ => rfl
  have w0 : scatter_S512_S100000x1_S100000_n_0_0_1.window (ix1 n) 0 = 0 := rfl
  constructor
  · intro h
    have a0 := h 0
    rw [h0, w0] at a0
    change _ = (g.val : ℤ) at a0
    omega
  · intro a0 a
    match a with
    | ⟨0, _⟩ =>
      refine (congrArg₂ (· + ·) h0 (congrArg Nat.cast w0)).trans ?_
      show _ = (g.val : ℤ)
      omega

theorem scatter_sum (idx : IVec S100000x1 32) (z : FVec Ideal S512x128 .f32) (u : FVec Ideal S100000x128 .f32) (g : Fin 512) (d : Fin 128) :
    Host.scatterAdd scatter_S512x128_S100000x1_S100000x128_1_0_0_1 z idx u (ix2 g d)
      = z (ix2 g d) + ∑ n : Fin 100000, hot g (idx (ix2 n 0)) * u (ix2 n d) := by
  show z (ix2 g d) + ∑ j ∈ Finset.univ.filter (fun j => scatter_S512x128_S100000x1_S100000x128_1_0_0_1.resultIdx? j idx = some (ix2 g d)), u j = _
  rw [Finset.sum_filter, sum_idx2]
  refine congrArg₂ (· + ·) rfl (Finset.sum_congr rfl fun n _ => ?_)
  simp only [lands_sum]
  unfold hot
  by_cases hn : BitVec.ofNat 32 g.val = idx (ix2 n 0)
  · simp only [hn, true_and, if_true, one_mul, Finset.sum_ite_eq', Finset.mem_univ]
  · simp only [hn, false_and, if_false, zero_mul, Finset.sum_const_zero]

theorem scatter_count (idx : IVec S100000x1 32) (z : FVec Ideal S512 .f32) (u : FVec Ideal S100000 .f32) (g : Fin 512) :
    Host.scatterAdd scatter_S512_S100000x1_S100000_n_0_0_1 z idx u (ix1 g) = z (ix1 g) + ∑ n : Fin 100000, hot g (idx (ix2 n 0)) * u (ix1 n) := by
  show z (ix1 g) + ∑ j ∈ Finset.univ.filter (fun j => scatter_S512_S100000x1_S100000_n_0_0_1.resultIdx? j idx = some (ix1 g)), u j = _
  rw [Finset.sum_filter, sum_idx1]
  refine congrArg₂ (· + ·) rfl (Finset.sum_congr rfl fun n _ => ?_)
  simp only [lands_count]
  unfold hot
  by_cases hn : BitVec.ofNat 32 g.val = idx (ix2 n 0)
  · simp only [hn, if_true, one_mul]
  · simp only [hn, if_false, zero_mul]

variable (x : Vec Ideal S100000x4x128 .f32) (b : Vec Ideal S100000 .i32)

theorem means_apply (n : Fin 100000) (d : Fin 128) : means x (ix2 n d) = Ideal.div (∑ s : Fin 4, x (ix3 n s d)) (Ideal.ofBits .f32 0x40800000#32) := by
  pointwise [means]

theorem meanSums_apply (g : Fin 512) (d : Fin 128) :
    meanSums x b (ix2 g d) = ∑ n : Fin 100000, hot g (b (ix1 n)) * Ideal.div (∑ s : Fin 4, x (ix3 n s d)) (Ideal.ofBits .f32 0x40800000#32) := by
  unfold meanSums
  rw [scatter_sum]
  pointwise
  simp only [means_apply]

theorem sizes_apply (g : Fin 512) : sizes (F := Ideal) b (ix1 g) = segCount b g := by
  unfold sizes segCount
  rw [scatter_count]
  pointwise

/-- What the reference returns, element by element. -/
theorem out_apply (g : Fin 512) (d : Fin 128) : out x b (ix2 g d) = Ideal.div (meanSums x b (ix2 g d)) (max (sizes (F := Ideal) b (ix1 g)) 1) := by
  pointwise [out]

end Cert.Pool.Ref
end
-- ==== Proof.Equation.lean ====
module

public import proofs.«01_k».proof.Proof.RefValue

@[expose] public section

set_option maxRecDepth 16384

noncomputable section

namespace Cert.Pool

open Cert.KernelIdeal Cert.KernelIdeal.Gen
open Idealize.ShloMosaic Idealize.ShloMosaic.TcCoe

/-- The pattern of four is the real four. -/
theorem ofBits_four : Ideal.ofBits .f32 0x40800000#32 = ((4 : ℝ) : EReal) := by
  simp [Ideal.ofBits, Ideal.ieee, -EReal.coe_mul]; norm_num

/-- Division by a positive real is multiplication by its inverse. -/
theorem div_pos_real (y : EReal) (r : ℝ) (hr : 0 < r) : Ideal.div y (r : EReal) = y * ((r⁻¹ : ℝ) : EReal) := by
  unfold Ideal.div
  rw [if_neg (by exact_mod_cast hr.ne'), EReal.coe_inv]

/-- A sum of reals, as extended reals. -/
theorem sum_coe {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor moves out of a sum of extended reals. -/
theorem sum_mul_real {ι : Type} (s : Finset ι) (f : ι → EReal) (r : ℝ) (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (by exact_mod_cast hr) (EReal.coe_ne_top r)]

/-- The last block's quotient, element by element. -/
theorem pay7_apply (A : Vec Ideal S512x128 .f32) (C : Vec Ideal S512x1 .f32) (g : Fin 512) (d : Fin 128) :
    k0_pay7 A C (ix2 g d) = Ideal.div (A (ix2 g d)) (max (C (ix2 g 0)) (Ideal.ofBits .f32 0x40800000#32)) := by
  pointwise [k0_pay7]

section

variable (x : Vec Ideal S100000x4x128 .f32) (b : Vec Ideal S100000 .i32)

/-- The number of nodes of a segment is a nonnegative real, and counting each node four times gives four times it. -/
theorem count_real (g : ℕ) : ∃ k : ℝ, 0 ≤ k ∧ segCount b g = (k : EReal) ∧ ∑ n : Fin 100000, 4 • hot g (b (ix1 n)) = ((4 * k : ℝ) : EReal) := by
  have e : ∀ n : Fin 100000, hot g (b (ix1 n)) = (((if BitVec.ofNat 32 g = b (ix1 n) then 1 else 0 : ℝ)) : EReal) := fun n => by
    unfold hot
    by_cases h : BitVec.ofNat 32 g = b (ix1 n)
    · rw [if_pos h, if_pos h, EReal.coe_one]
    · rw [if_neg h, if_neg h, EReal.coe_zero]
  have hk : segCount b g = ((∑ n : Fin 100000, (if BitVec.ofNat 32 g = b (ix1 n) then 1 else 0 : ℝ) : ℝ) : EReal) := by
    unfold segCount
    rw [sum_coe]
    exact Finset.sum_congr rfl fun n _ => e n
  refine ⟨_, Finset.sum_nonneg fun n _ => ?_, hk, ?_⟩
  · split <;> norm_num
  · rw [Finset.sum_nsmul, show ∑ n : Fin 100000, hot g (b (ix1 n)) = segCount b g from rfl, hk, EReal.coe_mul, EReal.nsmul_eq_mul]
    rfl

/-- The equation: the sum of a segment's rows over the larger of four times its size and four is the reference's mean of means. -/
theorem pooled_eq (g : Fin 512) (d : Fin 128) :
    Ideal.div (segSum x b g d) (max (∑ n : Fin 100000, 4 • hot g (b (ix1 n))) (Ideal.ofBits .f32 0x40800000#32))
      = Ref.out (F := Ideal) x b (ix2 g d) := by
  obtain ⟨k, hk, h1, h4⟩ := count_real b g
  have hm : 0 < max k 1 := lt_of_lt_of_le one_pos (le_max_right k 1)
  rw [Ref.out_apply, Ref.meanSums_apply, Ref.sizes_apply, h1, h4, ofBits_four]
  have e4 : max (((4 * k : ℝ)) : EReal) ((4 : ℝ) : EReal) = ((4 * max k 1 : ℝ) : EReal) := by
    rw [← EReal.coe_strictMono.monotone.map_max, mul_max_of_nonneg _ _ (by norm_num : (0 : ℝ) ≤ 4), mul_one]
  have e1 : max (k : EReal) 1 = ((max k 1 : ℝ) : EReal) := by
    rw [← EReal.coe_one, ← EReal.coe_strictMono.monotone.map_max]
  rw [e4, e1, div_pos_real _ _ (by positivity), div_pos_real _ _ hm]
  have es : ∀ n : Fin 100000, hot g (b (ix1 n)) * Ideal.div (∑ s : Fin 4, x (ix3 n s d)) ((4 : ℝ) : EReal)
      = (hot g (b (ix1 n)) * ∑ s : Fin 4, x (ix3 n s d)) * (((4 : ℝ)⁻¹ : ℝ) : EReal) := fun n => by
    rw [div_pos_real _ _ (by norm_num), mul_assoc]
  rw [Finset.sum_congr rfl fun n _ => es n, sum_mul_real _ _ _ (by norm_num), mul_assoc, ← EReal.coe_mul, mul_inv]
  rfl

end

variable (m : (ℓ : Loc nD τ sig) → Buf (Elt Ideal) ℓ) (c : Dev nD) (h : ∀ i, 0 ≤ (segs m c i).toInt)

include h

/-- What the last block stores is what the reference returns. -/
theorem result_eq : k0_pay7 (sums m c 25).1 (sums m c 25).2 = Ref.out (F := Ideal) (rows m c) (segs m c) := by
  funext i
  obtain ⟨g, d, rfl⟩ : ∃ (g : Fin 512) (d : Fin 128), i = ix2 g d := ⟨i 0, i 1, eq_ix2 i⟩
  obtain ⟨hA, hC⟩ := sums_last m c h g d
  rw [pay7_apply, hA, hC]
  exact pooled_eq (rows m c) (segs m c) g d

end Cert.Pool
end
-- ==== Proof.SameText.lean ====
module

public import proofs.«01_k».proof.Kernel
public import proofs.«01_k».proof.KernelIdeal
public import proofs.«01_k».proof.Proof.Gen.Kernel
public import proofs.«01_k».proof.Proof.Gen.KernelIdeal

@[expose] public section

set_option maxRecDepth 16384

noncomputable section

namespace Cert.Pool

open Idealize.ShloMosaic

variable {F : FTy → Type} [FloatOps F]

/-- The kernel body is the same program in both printings. -/
theorem defs₀_same : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig)
    (Λ := Cert.KernelIdeal.Λ₀)) ?_
  funext l a
  match l, a with
  | 0, (_, _) => rfl
  | ⟨_ + 1, h⟩, _ => exact absurd h (Nat.not_lt.2 (Nat.le_add_left _ _))

/-- With the pipeline around it, likewise. -/
theorem defs_same : Cert.Kernel.defs (F := F) = Cert.KernelIdeal.defs (F := F) :=
  congrArg (Pipeline.defs Cert.KernelIdeal.pcfgs) defs₀_same

end Cert.Pool
end
-- ==== Proof.lean ====
/- The certificate of the pooling kernel: its three frames, the (empty) idealization, and its equality with the
   reference over the extended reals, put together from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Run
public import proofs.«01_k».proof.Proof.Range
public import proofs.«01_k».proof.Proof.Final
public import proofs.«01_k».proof.Proof.Equation
public import proofs.«01_k».proof.Proof.SameText
public import Idealize.ShloMosaic.Lib.Quiescent

@[expose] public section

set_option maxRecDepth 16384

noncomputable section

namespace Cert.Proof

open Idealize.ShloMosaic Idealize.ShloMosaic.TcCoe Idealize.SL.Sem

section Kernel

open Cert.KernelIdeal Cert.KernelIdeal.Gen Cert.Pool

variable {F : FTy → Type} [FloatOps F]
variable (m : (ℓ : Loc nD τ sig) → Buf (Elt F) ℓ) (ρ : Dev nD → PrngReg)

/-- Over any arithmetic, if no segment number is negative, the kernel runs to its end; both arguments are unchanged,
    the result is the final division of the sums by the counts, and every semaphore is back at zero. -/
theorem kernel_run (h : ∀ c i, 0 ≤ (segs m c i).toInt) :
    θ_run defs (onTc (τ := τ) (main (F := F))) ⟨m, fun _ => 0, ρ⟩ (fun r =>
      (∀ c : Dev nD,
        r.2.mem ((c.tc : Thread nD τ).loc main_v4) = k0_pay7 (sums m c 25).1 (sums m c 25).2
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono
    (fun _ hr => ⟨fun c => ⟨((hr.1 c).1 2).trans (final m c),
      ((hr.1 c).2 main_arg0 (Pipeline.mem_restRefs_of main_arg0 (by decide) (by decide))).trans (V_main_arg0 m c),
      ((hr.1 c).2 main_arg1 (Pipeline.mem_restRefs_of main_arg1 (by decide) (by decide))).trans (V_main_arg1 m c)⟩, hr.2⟩)
    (Cert.Pool.run_main m ρ fun c => checked m c (h c))

/-- The part of that run a frame speaks of. -/
theorem kernel_frame (h : ∀ c i, 0 ≤ (segs m c i).toInt) :
    θ_run defs (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun _ hr => ⟨fun c => (hr.1 c).2, hr.2⟩) (kernel_run m ρ h)

end Kernel

/-- The kernel over machine numbers runs, keeps its arguments, and leaves every semaphore at zero. -/
theorem frame_kernel : Cert.quiescent_Kernel := fun m g hpre => by
  rw [Cert.Pool.defs_same]
  exact kernel_frame (F := Bits) m g fun c i => Cert.Pool.nonneg_of_pre _ _ (hpre c) i

/-- The kernel over the extended reals runs, keeps its arguments, and leaves every semaphore at zero. -/
theorem frame_ideal : Cert.quiescent_KernelIdeal := fun m g hpre =>
  kernel_frame (F := Ideal) m g fun c i => Cert.Pool.nonneg_of_pre _ _ (hpre c) i

/-- The reference runs, keeps its arguments, and leaves every semaphore at zero, whatever its arguments. -/
theorem frame_reference : Cert.quiescent_ReferenceIdeal := fun m g _ =>
  (θ_run (Cert.ReferenceIdeal.defs (F := Ideal)) _ _).mono
    (fun r hr => ⟨fun c => ⟨(hr c Cert.ReferenceIdeal.main_arg0).trans (Cert.Pool.Ref.arg0_eq _),
      (hr c Cert.ReferenceIdeal.main_arg1).trans (Cert.Pool.Ref.arg1_eq _)⟩, sem_eq_zero_of_no_sems (by decide) r.2⟩)
    (Cert.Pool.Ref.run_main m g)

/-- From equal arguments without a negative segment number the kernel and the reference return the same array of
    extended reals. -/
theorem equal : Cert.algebraic_KernelIdeal_ReferenceIdeal := fun m g m' g' hpre hag => by
  have hn : ∀ c i, 0 ≤ (Cert.Pool.segs m c i).toInt := fun c i => Cert.Pool.nonneg_of_pre _ _ (hpre c) i
  refine ⟨fun c => Cert.Pool.Ref.out (F := Ideal) (Cert.Pool.rows m c) (Cert.Pool.segs m c), ?_, ?_⟩
  · exact (θ_run (Cert.KernelIdeal.defs (F := Ideal)) _ _).mono
      (fun _ hr c => ⟨(hr.1 c).1.trans (Cert.Pool.result_eq m c (hn c)), (hr.1 c).2⟩) (kernel_run m g hn)
  · exact (θ_run (Cert.ReferenceIdeal.defs (F := Ideal)) _ _).mono
      (fun _ hr c => ⟨((hr c Cert.ReferenceIdeal.main_v14).trans (Cert.Pool.Ref.out_eq _)).trans
          (congrArg₂ (Cert.Pool.Ref.out (F := Ideal)) (hag c).1 (hag c).2),
        (hr c Cert.ReferenceIdeal.main_arg0).trans (Cert.Pool.Ref.arg0_eq _),
        (hr c Cert.ReferenceIdeal.main_arg1).trans (Cert.Pool.Ref.arg1_eq _)⟩)
      (Cert.Pool.Ref.run_main m' g')

/-- Every claim of the certificate. -/
theorem claim : Cert.Claim :=
  ⟨Cert.Kernel.Gen.facts, Cert.KernelIdeal.Gen.facts, Cert.ReferenceIdeal.Gen.facts, Cert.Pre_in_range.Gen.facts,
    frame_kernel, frame_ideal, frame_reference, fun m g _ => frame_reference m g trivial, trivial, equal⟩

end Cert.Proof

end
